-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys_KernelIdeal [hPre_finite_queries_keys_KernelIdeal : Cert.Pre_finite_queries_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys_ReferenceIdeal [hPre_finite_queries_keys_ReferenceIdeal : Cert.Pre_finite_queries_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys_KernelIdeal [hKernelIdeal : Cert.KernelIdeal.Facts] [hPre_finite_queries_keys_KernelIdeal : Cert.Pre_finite_queries_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys_ReferenceIdeal [hReferenceIdeal : Cert.ReferenceIdeal.Facts] [hPre_finite_queries_keys_ReferenceIdeal : Cert.Pre_finite_queries_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_keys_KernelIdeal [hKernelIdeal : Cert.KernelIdeal.Facts] [hReferenceIdeal : Cert.ReferenceIdeal.Facts] [hPre_finite_queries_keys_KernelIdeal : Cert.Pre_finite_queries_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![4, 4096, 8, 128]⟩ ⟨4, ![4, 16384, 8, 128]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 4096, 8, 128]⟩ ⟨4, ![4, 16384, 8, 128]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_keys_KernelIdeal : Cert.Pre_finite_queries_keys_KernelIdeal.Facts) (hPre_finite_queries_keys_ReferenceIdeal : Cert.Pre_finite_queries_keys_ReferenceIdeal.Facts),
    quiescent_Kernel (hKernel := hKernel)
    ∧ quiescent_KernelIdeal (hKernelIdeal := hKernelIdeal)
    ∧ quiescent_KernelIdeal_pre_finite_queries_keys_KernelIdeal (hKernelIdeal := hKernelIdeal) (hPre_finite_queries_keys_KernelIdeal := hPre_finite_queries_keys_KernelIdeal)
    ∧ quiescent_ReferenceIdeal (hReferenceIdeal := hReferenceIdeal)
    ∧ quiescent_ReferenceIdeal_pre_finite_queries_keys_ReferenceIdeal (hReferenceIdeal := hReferenceIdeal) (hPre_finite_queries_keys_ReferenceIdeal := hPre_finite_queries_keys_ReferenceIdeal)
    ∧ preserves_Kernel_KernelIdeal
    ∧ algebraic_KernelIdeal_ReferenceIdeal_pre_finite_queries_keys_KernelIdeal (hKernelIdeal := hKernelIdeal) (hReferenceIdeal := hReferenceIdeal) (hPre_finite_queries_keys_KernelIdeal := hPre_finite_queries_keys_KernelIdeal)
-- ==== Pre_finite_queries_keys_KernelIdeal.lean ====
abbrev S4x32x8x128 : Shape := ⟨4, ![4, 32, 8, 128]⟩
abbrev S4x4096x8x128 : Shape := ⟨4, ![4, 4096, 8, 128]⟩
abbrev S4x4128x8x128 : Shape := ⟨4, ![4, 4128, 8, 128]⟩
abbrev S_ : Shape := ⟨0, ![]⟩

class Facts : Prop where
  concatenates_S4x32x8x128_S4x4096x8x128_S4x4128x8x128_d1 : Shape.Concatenates [S4x32x8x128, S4x4096x8x128] S4x4128x8x128 1
  bcast_S_S4x4128x8x128 : S_.BroadcastsInDim S4x4128x8x128 (![] : Fin 0 → Fin S4x4128x8x128.rank)

variable [Facts]

def fn {F : FTy → Type} [FloatOps F] (main_arg0 : FVec F S4x32x8x128 .f32) (main_arg1 : FVec F S4x4096x8x128 .f32) (main_arg2 : FVec F S4x4096x8x128 .f32) : IVec S4x4128x8x128 1 :=
  let main_v0 : FVec F S4x4128x8x128 .f32 := (fun a b => concatenate S4x4128x8x128 1 [⟨S4x32x8x128, a⟩, ⟨S4x4096x8x128, b⟩] concatenates_S4x32x8x128_S4x4096x8x128_S4x4128x8x128_d1) main_arg0 main_arg1
  let main_v1 : FVec F S4x4128x8x128 .f32 := Host.absf main_v0
  let main_cst : FVec F S_ .f32 := constant S_ .f32 0x7F800000#32
  let main_v2 : FVec F S4x4128x8x128 .f32 := broadcastInDim S4x4128x8x128 ![] bcast_S_S4x4128x8x128 main_cst
  let main_v3 : IVec S4x4128x8x128 1 := cmpf .olt main_v1 main_v2
  main_v3
-- ==== Pre_finite_queries_keys_ReferenceIdeal.lean ====
abbrev S4x32x8x128 : Shape := ⟨4, ![4, 32, 8, 128]⟩
abbrev S4x16384x8x128 : Shape := ⟨4, ![4, 16384, 8, 128]⟩
abbrev S4x16416x8x128 : Shape := ⟨4, ![4, 16416, 8, 128]⟩
abbrev S_ : Shape := ⟨0, ![]⟩

class Facts : Prop where
  concatenates_S4x32x8x128_S4x16384x8x128_S4x16416x8x128_d1 : Shape.Concatenates [S4x32x8x128, S4x16384x8x128] S4x16416x8x128 1
  bcast_S_S4x16416x8x128 : S_.BroadcastsInDim S4x16416x8x128 (![] : Fin 0 → Fin S4x16416x8x128.rank)

variable [Facts]

def fn {F : FTy → Type} [FloatOps F] (main_arg0 : FVec F S4x32x8x128 .f32) (main_arg1 : FVec F S4x16384x8x128 .f32) (main_arg2 : FVec F S4x16384x8x128 .f32) : IVec S4x16416x8x128 1 :=
  let main_v0 : FVec F S4x16416x8x128 .f32 := (fun a b => concatenate S4x16416x8x128 1 [⟨S4x32x8x128, a⟩, ⟨S4x16384x8x128, b⟩] concatenates_S4x32x8x128_S4x16384x8x128_S4x16416x8x128_d1) main_arg0 main_arg1
  let main_v1 : FVec F S4x16416x8x128 .f32 := Host.absf main_v0
  let main_cst : FVec F S_ .f32 := constant S_ .f32 0x7F800000#32
  let main_v2 : FVec F S4x16416x8x128 .f32 := broadcastInDim S4x16416x8x128 ![] bcast_S_S4x16416x8x128 main_cst
  let main_v3 : IVec S4x16416x8x128 1 := cmpf .olt main_v1 main_v2
  main_v3
-- ==== Kernel.lean ====
abbrev S4x32x8x128 : Shape := ⟨4, ![4, 32, 8, 128]⟩
abbrev S4x4096x8x128 : Shape := ⟨4, ![4, 4096, 8, 128]⟩
abbrev S4x4096x128 : Shape := ⟨3, ![4, 4096, 128]⟩
abbrev S4 : Shape := ⟨1, ![4]⟩
abbrev S4x4x9x32x128 : Shape := ⟨5, ![4, 4, 9, 32, 128]⟩
abbrev S2x4 : Shape := ⟨2, ![2, 4]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S1x32x1x128 : Shape := ⟨4, ![1, 32, 1, 128]⟩
abbrev S32x128 : Shape := ⟨2, ![32, 128]⟩
abbrev S32x4096 : Shape := ⟨2, ![32, 4096]⟩
abbrev S32 : Shape := ⟨1, ![32]⟩
abbrev S32x1 : Shape := ⟨2, ![32, 1]⟩
abbrev S1x1x1x32x128 : Shape := ⟨5, ![1, 1, 1, 32, 128]⟩
abbrev S1x1x1x32x1 : Shape := ⟨5, ![1, 1, 1, 32, 1]⟩
abbrev S1x1 : Shape := ⟨2, ![1, 1]⟩
abbrev S1x1x9x32x128 : Shape := ⟨5, ![1, 1, 9, 32, 128]⟩
abbrev S9x32x128 : Shape := ⟨3, ![9, 32, 128]⟩
abbrev S1x1x4x32x128 : Shape := ⟨5, ![1, 1, 4, 32, 128]⟩
abbrev S4x32x128 : Shape := ⟨3, ![4, 32, 128]⟩
abbrev S1x1x5x32x128 : Shape := ⟨5, ![1, 1, 5, 32, 128]⟩
abbrev S5x32x128 : Shape := ⟨3, ![5, 32, 128]⟩

abbrev nBuf : Space → Nat
  | .hbm => 4
  | .vmem => 5
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .local _ .vmem, ⟨0, _⟩ => ⟨S4x32x8x128, .f32⟩
  | .local _ .vmem, ⟨1, _⟩ => ⟨S4x32x8x128, .f32⟩
  | .local _ .vmem, ⟨2, _⟩ => ⟨S4x4096x128, .f32⟩
  | .local _ .vmem, ⟨3, _⟩ => ⟨S4x4096x128, .f32⟩
  | .local _ .vmem, ⟨4, _⟩ => ⟨S4x4x9x32x128, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch4 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_541 : BitVec 32 := 1#32
  let v449 : BitVec 32 := Scalar.muli v7 c1_i32_541
  let v450 : BitVec 32 := Scalar.addi c0_i32_542 v449
  v450.toNat
def k0_dev4 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_557 : BitVec 32 := 1#32
  let v459 : BitVec 32 := Scalar.muli v5 c1_i32_557
  let v460 : BitVec 32 := Scalar.addi c0_i32_558 v459
  v460.toNat
def k0_dev5 (d0 : Dev nD) : Nat :=
  let c0_i32_1070 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1069 : BitVec 32 := 1#32
  let v869 : BitVec 32 := Scalar.muli v7 c1_i32_1069
  let v870 : BitVec 32 := Scalar.addi c0_i32_1070 v869
  v870.toNat
def k0_dev6 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1085 : BitVec 32 := 1#32
  let v879 : BitVec 32 := Scalar.muli v5 c1_i32_1085
  let v880 : BitVec 32 := Scalar.addi c0_i32_1086 v879
  v880.toNat
def k0_dev7 (d0 : Dev nD) : Nat :=
  let c0_i32_1134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1133 : BitVec 32 := 1#32
  let v905 : BitVec 32 := Scalar.muli v7 c1_i32_1133
  let v906 : BitVec 32 := Scalar.addi c0_i32_1134 v905
  v906.toNat
def k0_dev8 (d0 : Dev nD) : Nat :=
  let c0_i32_1150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1149 : BitVec 32 := 1#32
  let v915 : BitVec 32 := Scalar.muli v5 c1_i32_1149
  let v916 : BitVec 32 := Scalar.addi c0_i32_1150 v915
  v916.toNat
def k0_dev9 (d0 : Dev nD) : Nat :=
  let c0_i32_1662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1661 : BitVec 32 := 1#32
  let v1325 : BitVec 32 := Scalar.muli v7 c1_i32_1661
  let v1326 : BitVec 32 := Scalar.addi c0_i32_1662 v1325
  v1326.toNat
def k0_dev10 (d0 : Dev nD) : Nat :=
  let c0_i32_1678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1677 : BitVec 32 := 1#32
  let v1335 : BitVec 32 := Scalar.muli v5 c1_i32_1677
  let v1336 : BitVec 32 := Scalar.addi c0_i32_1678 v1335
  v1336.toNat
def k0_dev11 (d0 : Dev nD) : Nat :=
  let c0_i32_1726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1725 : BitVec 32 := 1#32
  let v1361 : BitVec 32 := Scalar.muli v7 c1_i32_1725
  let v1362 : BitVec 32 := Scalar.addi c0_i32_1726 v1361
  v1362.toNat
def k0_dev12 (d0 : Dev nD) : Nat :=
  let c0_i32_1742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1741 : BitVec 32 := 1#32
  let v1371 : BitVec 32 := Scalar.muli v5 c1_i32_1741
  let v1372 : BitVec 32 := Scalar.addi c0_i32_1742 v1371
  v1372.toNat
def k0_dev13 (d0 : Dev nD) : Nat :=
  let c0_i32_2766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2765 : BitVec 32 := 1#32
  let v2257 : BitVec 32 := Scalar.muli v7 c1_i32_2765
  let v2258 : BitVec 32 := Scalar.addi c0_i32_2766 v2257
  v2258.toNat
def k0_dev14 (d0 : Dev nD) : Nat :=
  let c0_i32_2782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2781 : BitVec 32 := 1#32
  let v2267 : BitVec 32 := Scalar.muli v5 c1_i32_2781
  let v2268 : BitVec 32 := Scalar.addi c0_i32_2782 v2267
  v2268.toNat
def k0_dev15 (d0 : Dev nD) : Nat :=
  let c0_i32_2830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2829 : BitVec 32 := 1#32
  let v2293 : BitVec 32 := Scalar.muli v7 c1_i32_2829
  let v2294 : BitVec 32 := Scalar.addi c0_i32_2830 v2293
  v2294.toNat
def k0_dev16 (d0 : Dev nD) : Nat :=
  let c0_i32_2846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2845 : BitVec 32 := 1#32
  let v2303 : BitVec 32 := Scalar.muli v5 c1_i32_2845
  let v2304 : BitVec 32 := Scalar.addi c0_i32_2846 v2303
  v2304.toNat
def k0_dev17 (d0 : Dev nD) : Nat :=
  let c0_i32_3454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3453 : BitVec 32 := 1#32
  let v2841 : BitVec 32 := Scalar.muli v7 c1_i32_3453
  let v2842 : BitVec 32 := Scalar.addi c0_i32_3454 v2841
  v2842.toNat
def k0_dev18 (d0 : Dev nD) : Nat :=
  let c0_i32_3470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3469 : BitVec 32 := 1#32
  let v2851 : BitVec 32 := Scalar.muli v5 c1_i32_3469
  let v2852 : BitVec 32 := Scalar.addi c0_i32_3470 v2851
  v2852.toNat
abbrev stage0_0 : Fin 1 → Memref sig .tc .vmem S4x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x32x8x128 : Shape := ⟨4, ![4, 32, 8, 128]⟩
abbrev S4x16384x8x128 : Shape := ⟨4, ![4, 16384, 8, 128]⟩
abbrev S4x8x32x16384 : Shape := ⟨4, ![4, 8, 32, 16384]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x16384x8x128, .f32⟩
  | .hbm, ⟨2, _⟩ => ⟨S4x16384x8x128, .f32⟩
  | .hbm, ⟨3, _⟩ => ⟨S4x8x32x16384, .f32⟩
  | .hbm, ⟨4, _⟩ => ⟨S_, .f32⟩
  | .hbm, ⟨5, _⟩ => ⟨S4x8x32x16384, .f32⟩
  | .hbm, ⟨6, _⟩ => ⟨S4x8x32x16384, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x16384, .f32⟩
  | .hbm, ⟨11, _⟩ => ⟨S4x8x32x16384, .f32⟩
  | .hbm, ⟨12, _⟩ => ⟨S4x8x32x16384, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x16384, .f32⟩
  | .hbm, ⟨17, _⟩ => ⟨S4x8x32x16384, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Prog.lean ====
/-
The kernel's body, written once per step instead of once per unrolled copy: the printed body is 32 head steps, 16
remote copies and 32 combine steps laid out in sequence and cut into pieces of sixty statements. Here each kind of step
is one definition over its indices, and the whole body is proved equal to the sequence of them by unfolding.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Attn

open Cert.KernelIdeal Cert.KernelIdeal.Gen

open Idealize.ShloMosaic
open Idealize.ShloMosaic.TcCoe
open Idealize.SL Idealize.SL.Sem

variable {F : FTy → Type} [FloatOps F]

/-- What a step of the body is: a program that returns nothing. -/
abbrev Step (F : FTy → Type) [FloatOps F] : Type 1 := Prog (TpuEff nD τ sig (Elt F) Λ₀ .tc) PUnit

/-! ## The buffers and semaphores -/

abbrev qM : Memref sig .tc .vmem S4x32x8x128 .f32 := Memref.whole cc0_stg0_0
abbrev kM : Memref sig .tc .hbm S4x4096x8x128 .f32 := Memref.whole main_arg1
abbrev vM : Memref sig .tc .hbm S4x4096x8x128 .f32 := Memref.whole main_arg2
abbrev outM : Memref sig .tc .vmem S4x32x8x128 .f32 := Memref.whole cc0_stg1_0
abbrev kbM : Memref sig .tc .vmem S4x4096x128 .f32 := Memref.whole cc0_scratch0
abbrev vbM : Memref sig .tc .vmem S4x4096x128 .f32 := Memref.whole cc0_scratch1
abbrev oM : Memref sig .tc .vmem S4x4x9x32x128 .f32 := Memref.whole cc0_scratch4

/-- The runtime's barrier semaphore. -/
abbrev barS : Sem sig := (SemArray.scalar (sig.barrier 0 rfl) : Sems sig S_).sem

theorem inb_slotSem (s : Fin 4) : ∀ a, (![s.val] : Fin 1 → Nat) a + S1.size a ≤ S4.size a := by revert s; decide
theorem inb_pairSem (d : Fin 2) (b : Fin 4) : ∀ a, (![d.val, b.val] : Fin 2 → Nat) a + S1x1.size a ≤ S2x4.size a := by
  revert d b; decide

/-- Slot `s` of a four-slot semaphore array; -/
abbrev slotSem (A : DmaSems sig S4) (s : Fin 4) : DmaSem sig :=
  ((A.slice (Rect.unit (s := S4) ![s.val] S1.size (inb_slotSem s))).squeeze S_ squeezes_S1_S_).sem
/-- entry `[d, b]` of a semaphore array by direction and batch. -/
abbrev pairSem (A : DmaSems sig S2x4) (d : Fin 2) (b : Fin 4) : DmaSem sig :=
  ((A.slice (Rect.unit (s := S2x4) ![d.val, b.val] S1x1.size (inb_pairSem d b))).squeeze S_ squeezes_S1x1_S_).sem

abbrev kS (s : Fin 4) : DmaSem sig := slotSem cc0_scratch2 s
abbrev vS (s : Fin 4) : DmaSem sig := slotSem cc0_scratch3 s
/-- The first hop's send and receive semaphores, the second hop's. -/
abbrev so1 (d : Fin 2) (b : Fin 4) : DmaSem sig := pairSem cc0_scratch5 d b
abbrev ro1 (d : Fin 2) (b : Fin 4) : DmaSem sig := pairSem cc0_scratch6 d b
abbrev so2 (d : Fin 2) (b : Fin 4) : DmaSem sig := pairSem cc0_scratch7 d b
abbrev ro2 (d : Fin 2) (b : Fin 4) : DmaSem sig := pairSem cc0_scratch8 d b

/-! ## The views -/

theorem inb_slot (s : Fin 4) : ∀ a, (![s.val, 0, 0] : Fin 3 → Nat) a + S1x4096x128.size a ≤ S4x4096x128.size a := by
  revert s; decide
theorem inb_kv (b : Fin 4) (h : Fin 8) :
    ∀ a, (![b.val, 0, h.val, 0] : Fin 4 → Nat) a + S1x4096x1x128.size a ≤ S4x4096x8x128.size a := by
  revert b h; decide
theorem inb_q (b : Fin 4) (h : Fin 8) :
    ∀ a, (![b.val, 0, h.val, 0] : Fin 4 → Nat) a + S1x32x1x128.size a ≤ S4x32x8x128.size a := by
  revert b h; decide
theorem inb_o (j b : Fin 4) (r : Fin 9) :
    ∀ a, (![j.val, b.val, r.val, 0, 0] : Fin 5 → Nat) a + S1x1x1x32x128.size a ≤ S4x4x9x32x128.size a := by
  revert j b r; decide
theorem inb_col (j b : Fin 4) (n : Fin 16) :
    ∀ a, (![j.val, b.val, 8, 0, n.val] : Fin 5 → Nat) a + S1x1x1x32x1.size a ≤ S4x4x9x32x128.size a := by
  revert j b n; decide
theorem inb_all (j b : Fin 4) :
    ∀ a, (![j.val, b.val, 0, 0, 0] : Fin 5 → Nat) a + S1x1x9x32x128.size a ≤ S4x4x9x32x128.size a := by
  revert j b; decide
theorem inb_lo (j b : Fin 4) :
    ∀ a, (![j.val, b.val, 0, 0, 0] : Fin 5 → Nat) a + S1x1x4x32x128.size a ≤ S4x4x9x32x128.size a := by
  revert j b; decide
theorem inb_hi (j b : Fin 4) :
    ∀ a, (![j.val, b.val, 4, 0, 0] : Fin 5 → Nat) a + S1x1x5x32x128.size a ≤ S4x4x9x32x128.size a := by
  revert j b; decide

/-- The rectangles the loads and stores access. -/
abbrev qR (b : Fin 4) (h : Fin 8) : Rect S4x32x8x128 := Rect.unit (s := S4x32x8x128) ![b.val, 0, h.val, 0] S1x32x1x128.size (inb_q b h)
abbrev slotR (s : Fin 4) : Rect S4x4096x128 := Rect.unit (s := S4x4096x128) ![s.val, 0, 0] S1x4096x128.size (inb_slot s)
abbrev oR (j b : Fin 4) (r : Fin 9) : Rect S4x4x9x32x128 := Rect.unit (s := S4x4x9x32x128) ![j.val, b.val, r.val, 0, 0] S1x1x1x32x128.size (inb_o j b r)
abbrev colR (j b : Fin 4) (n : Fin 16) : Rect S4x4x9x32x128 := Rect.unit (s := S4x4x9x32x128) ![j.val, b.val, 8, 0, n.val] S1x1x1x32x1.size (inb_col j b n)

/-- One head of one batch of a device's keys (or values), as a matrix. -/
abbrev headM (A : Memref sig .tc .hbm S4x4096x8x128 .f32) (b : Fin 4) (h : Fin 8) : Memref sig .tc .hbm S4096x128 .f32 :=
  (A.slice (Rect.unit (s := S4x4096x8x128) ![b.val, 0, h.val, 0] S1x4096x1x128.size (inb_kv b h)) (fun _ => rfl)).squeeze S4096x128 squeezes_S1x4096x1x128_S4096x128
/-- One slot of the ring of fetched heads. -/
abbrev slotM (A : Memref sig .tc .vmem S4x4096x128 .f32) (s : Fin 4) : Memref sig .tc .vmem S4096x128 .f32 :=
  (A.slice (Rect.unit (s := S4x4096x128) ![s.val, 0, 0] S1x4096x128.size (inb_slot s)) (fun _ => rfl)).squeeze S4096x128 squeezes_S1x4096x128_S4096x128
/-- Batch `b` of place `j` of the partial results: all nine rows, -/
abbrev allM (j b : Fin 4) : Memref sig .tc .vmem S9x32x128 .f32 :=
  (oM.slice (Rect.unit (s := S4x4x9x32x128) ![j.val, b.val, 0, 0, 0] S1x1x9x32x128.size (inb_all j b)) (fun _ => rfl)).squeeze S9x32x128 squeezes_S1x1x9x32x128_S9x32x128
/-- the first four, -/
abbrev loM (j b : Fin 4) : Memref sig .tc .vmem S4x32x128 .f32 :=
  (oM.slice (Rect.unit (s := S4x4x9x32x128) ![j.val, b.val, 0, 0, 0] S1x1x4x32x128.size (inb_lo j b)) (fun _ => rfl)).squeeze S4x32x128 squeezes_S1x1x4x32x128_S4x32x128
/-- the last five. -/
abbrev hiM (j b : Fin 4) : Memref sig .tc .vmem S5x32x128 .f32 :=
  (oM.slice (Rect.unit (s := S4x4x9x32x128) ![j.val, b.val, 4, 0, 0] S1x1x5x32x128.size (inb_hi j b)) (fun _ => rfl)).squeeze S5x32x128 squeezes_S1x1x5x32x128_S5x32x128

/-! ## The steps -/

/-- The batch, head and ring slot of fetch number `i`. -/
def bOf (i : ℕ) : Fin 4 := ⟨i / 8 % 4, Nat.mod_lt _ (by decide)⟩
def hOf (i : ℕ) : Fin 8 := ⟨i % 8, Nat.mod_lt _ (by decide)⟩
def sOf (i : ℕ) : Fin 4 := ⟨i % 4, Nat.mod_lt _ (by decide)⟩

def fetch1 (A : Memref sig .tc .hbm S4x4096x8x128 .f32) (B : Memref sig .tc .vmem S4x4096x128 .f32) (X : DmaSem sig)
    (b : Fin 4) (h : Fin 8) (s : Fin 4) : Step F :=
  Prog.lift (.enqueueDma (headM A b h) (.here (slotM B s)) (.dma X) ((View.wordExact_bits rfl).reshape _ _) ((View.wordExact_bits rfl).reshape _ _) ⟨Or.inl rfl, trivial⟩)
def await1 (A : Memref sig .tc .hbm S4x4096x8x128 .f32) (B : Memref sig .tc .vmem S4x4096x128 .f32) (X : DmaSem sig)
    (b : Fin 4) (h : Fin 8) (s : Fin 4) : Step F :=
  Prog.lift (.waitDma2 X (headM A b h) (slotM B s) ((View.wordExact_bits rfl).reshape _ _) ((View.wordExact_bits rfl).reshape _ _))

def fetch (i : ℕ) : Step F := do
  fetch1 kM kbM (kS (sOf i)) (bOf i) (hOf i) (sOf i)
  fetch1 vM vbM (vS (sOf i)) (bOf i) (hOf i) (sOf i)
def await (i : ℕ) : Step F := do
  await1 kM kbM (kS (sOf i)) (bOf i) (hOf i) (sOf i)
  await1 vM vbM (vS (sOf i)) (bOf i) (hOf i) (sOf i)

/-- A head's scores, from its queries and keys; -/
def scores (q : Vec F S1x32x1x128 .f32) (k : Vec F S1x4096x128 .f32) : FVec F S32x4096 .f32 :=
  matmul dot_S32x128_S4096x128_S32x4096_1_1_0_0_n_n none
    (mulf (shapeCast S32x128 q shapeCasts_S1x32x1x128_S32x128) (broadcast S32x128 (Scalar.ofBits .f32 0x3DB504F3#32)))
    (shapeCast S4096x128 k shapeCasts_S1x4096x128_S4096x128) (constant S32x4096 .f32 0x00000000#32)
/-- their row maxima; -/
def rowMax (q : Vec F S1x32x1x128 .f32) (k : Vec F S1x4096x128 .f32) : FVec F S32x1 .f32 :=
  shapeCast S32x1 (multiReduction .maximumf [1] S32 (scores q k) 0xFF800000#32 reduces_S32x4096_S32 (.inl rfl) rfl) shapeCasts_S32_S32x1
/-- the exponentials of the scores below their maxima; -/
def expo (q : Vec F S1x32x1x128 .f32) (k : Vec F S1x4096x128 .f32) : FVec F S32x4096 .f32 :=
  exp (subf (scores q k) (broadcastTo S32x4096 (rowMax q k) broadcasts_S32x1_S32x4096))
/-- their row sums; -/
def rowSum (q : Vec F S1x32x1x128 .f32) (k : Vec F S1x4096x128 .f32) : FVec F S32x1 .f32 :=
  shapeCast S32x1 (multiReduction .add [1] S32 (expo q k) 0x00000000#32 reduces_S32x4096_S32 (.inl rfl) rfl) shapeCasts_S32_S32x1
/-- and the values they weigh. -/
def weighed (q : Vec F S1x32x1x128 .f32) (k v : Vec F S1x4096x128 .f32) : FVec F S32x128 .f32 :=
  matmul dot_S32x4096_S4096x128_S32x128_1_0_0_1_n_n none (expo q k) (shapeCast S4096x128 v shapeCasts_S1x4096x128_S4096x128) (constant S32x128 .f32 0x00000000#32)

theorem col_lt (h : Fin 8) : 2 * h.val < 16 := by omega
theorem col_lt' (h : Fin 8) : 2 * h.val + 1 < 16 := by omega
/-- The columns of the statistics row that hold head `h`'s maximum and its sum. -/
def mCol (h : Fin 8) : Fin 16 := ⟨2 * h.val, col_lt h⟩
def lCol (h : Fin 8) : Fin 16 := ⟨2 * h.val + 1, col_lt' h⟩
def oRow (h : Fin 8) : Fin 9 := ⟨h.val, Nat.lt_of_lt_of_le h.isLt (by decide)⟩

/-- One head's local attention: its partial result and statistics into place 0. -/
def head (i : ℕ) : Step F := do
  let q : Vec F S1x32x1x128 .f32 ← Prog.lift (.load qM (qR (bOf i) (hOf i)).toLoadRect (View.loadsAt_vmem h_S1x32x1x128))
  let k : Vec F S1x4096x128 .f32 ← Prog.lift (.load kbM (slotR (sOf i)).toLoadRect (View.loadsAt_vmem h_S1x4096x128))
  let v : Vec F S1x4096x128 .f32 ← Prog.lift (.load vbM (slotR (sOf i)).toLoadRect (View.loadsAt_vmem h_S1x4096x128))
  let _ : Vec F S1x1x1x32x128 .f32 ← Prog.lift (.load oM (oR 0 (bOf i) (oRow (hOf i))).toLoadRect (View.loadsAt_vmem h_S1x1x1x32x128))
  Prog.lift (.store oM (oR 0 (bOf i) (oRow (hOf i))) (shapeCast S1x1x1x32x128 (weighed q k v) shapeCasts_S32x128_S1x1x1x32x128) Finset.univ (View.stores_vmem_bits_univ h_S1x1x1x32x128 rfl) (.inl rfl))
  let _ : Vec F S1x1x1x32x1 .f32 ← Prog.lift (.load oM (colR 0 (bOf i) (mCol (hOf i))).toLoadRect (View.loadsAt_vmem h_S1x1x1x32x1))
  Prog.lift (.store oM (colR 0 (bOf i) (mCol (hOf i))) (shapeCast S1x1x1x32x1 (rowMax q k) shapeCasts_S32x1_S1x1x1x32x1) Finset.univ (View.stores_vmem_bits_univ h_S1x1x1x32x1 rfl) (.inl rfl))
  let _ : Vec F S1x1x1x32x1 .f32 ← Prog.lift (.load oM (colR 0 (bOf i) (lCol (hOf i))).toLoadRect (View.loadsAt_vmem h_S1x1x1x32x1))
  Prog.lift (.store oM (colR 0 (bOf i) (lCol (hOf i))) (shapeCast S1x1x1x32x1 (rowSum q k) shapeCasts_S32x1_S1x1x1x32x1) Finset.univ (View.stores_vmem_bits_univ h_S1x1x1x32x1 rfl) (.inl rfl))

/-- One turn of the ring: the fetch three ahead while there is one, the wait for this one, the head. -/
def turn (i : ℕ) : Step F := do
  if i + 3 < 32 then fetch (i + 3) else pure ⟨⟩
  await i
  head i

/-- `n` turns from number `i`. -/
def turns (i : ℕ) : ℕ → Step F
  | 0 => pure ⟨⟩
  | n + 1 => do turn i; turns (i + 1) n

/-- The remote copies, each to the device `dev` names. First hop, to the right and to the left: -/
def hop1 (d : Fin 2) (j b : Fin 4) (n : Dev nD) : Step F :=
  Prog.lift (.enqueueDma (allM 0 b) (.remote (Dev.tc n) (allM j b) (.dma (so1 d b))) (.dma (ro1 d b)) ((View.wordExact_bits rfl).reshape _ _) ((View.wordExact_bits rfl).reshape _ _) ⟨⟨rfl, Or.inl rfl⟩, trivial⟩)
/-- second hop, to the right (the first four rows) and to the left (the last five). -/
def hop2r (b : Fin 4) (n : Dev nD) : Step F :=
  Prog.lift (.enqueueDma (loM 1 b) (.remote (Dev.tc n) (loM 3 b) (.dma (so2 0 b))) (.dma (ro2 0 b)) ((View.wordExact_bits rfl).reshape _ _) ((View.wordExact_bits rfl).reshape _ _) ⟨⟨rfl, Or.inl rfl⟩, trivial⟩)
def hop2l (b : Fin 4) (n : Dev nD) : Step F :=
  Prog.lift (.enqueueDma (hiM 2 b) (.remote (Dev.tc n) (hiM 3 b) (.dma (so2 1 b))) (.dma (ro2 1 b)) ((View.wordExact_bits rfl).reshape _ _) ((View.wordExact_bits rfl).reshape _ _) ⟨⟨rfl, Or.inl rfl⟩, trivial⟩)

/-- A wait on semaphore `X` for a whole batch, its first four rows, its last five; the views name the transfer. -/
def awaitAll (X : DmaSem sig) (s d : Memref sig .tc .vmem S9x32x128 .f32) (hs : s.view.WordExact) (hd : d.view.WordExact) : Step F :=
  Prog.lift (.waitDma2 X s d hs hd)
def awaitLo (X : DmaSem sig) (s d : Memref sig .tc .vmem S4x32x128 .f32) (hs : s.view.WordExact) (hd : d.view.WordExact) : Step F :=
  Prog.lift (.waitDma2 X s d hs hd)
def awaitHi (X : DmaSem sig) (s d : Memref sig .tc .vmem S5x32x128 .f32) (hs : s.view.WordExact) (hd : d.view.WordExact) : Step F :=
  Prog.lift (.waitDma2 X s d hs hd)

theorem we_all (j b : Fin 4) : (allM j b).view.WordExact := (View.wordExact_bits rfl).reshape _ _
theorem we_lo (j b : Fin 4) : (loM j b).view.WordExact := (View.wordExact_bits rfl).reshape _ _
theorem we_hi (j b : Fin 4) : (hiM j b).view.WordExact := (View.wordExact_bits rfl).reshape _ _

/-- Waits for what arrives: batch `b` from both neighbours, -/
def recv1 (b : Fin 4) : Step F := do
  awaitAll (ro1 0 b) (allM 0 b) (allM 1 b) (we_all 0 b) (we_all 1 b)
  awaitAll (ro1 1 b) (allM 0 b) (allM 2 b) (we_all 0 b) (we_all 2 b)
/-- and its two parts from across the ring; -/
def recv2 (b : Fin 4) : Step F := do
  awaitLo (ro2 0 b) (loM 1 b) (loM 3 b) (we_lo 1 b) (we_lo 3 b)
  awaitHi (ro2 1 b) (hiM 2 b) (hiM 3 b) (we_hi 2 b) (we_hi 3 b)
/-- waits for what was sent to have left. -/
def sent (b : Fin 4) : Step F := do
  awaitAll (so1 0 b) (allM 1 b) (allM 0 b) (we_all 1 b) (we_all 0 b)
  awaitAll (so1 1 b) (allM 2 b) (allM 0 b) (we_all 2 b) (we_all 0 b)
  awaitLo (so2 0 b) (loM 3 b) (loM 1 b) (we_lo 3 b) (we_lo 1 b)
  awaitHi (so2 1 b) (hiM 3 b) (hiM 2 b) (we_hi 3 b) (we_hi 2 b)

/-- A weight of the combination: the exponential of a maximum below the greatest. -/
def weight (m M : FVec F S32x1 .f32) : FVec F S32x1 .f32 := exp (subf m M)
abbrev castCol (x : Vec F S1x1x1x32x1 .f32) : FVec F S32x1 .f32 := shapeCast S32x1 x shapeCasts_S1x1x1x32x1_S32x1
abbrev castRow (x : Vec F S1x1x1x32x128 .f32) : FVec F S32x128 .f32 := shapeCast S32x128 x shapeCasts_S1x1x1x32x128_S32x128
def top (m0 m1 m2 m3 : FVec F S32x1 .f32) : FVec F S32x1 .f32 := maximumf (maximumf (maximumf m0 m1) m2) m3
def addW (a w l : FVec F S32x1 .f32) : FVec F S32x1 .f32 := addf a (mulf w l)
def addO (a : FVec F S32x128 .f32) (w : FVec F S32x1 .f32) (o : FVec F S32x128 .f32) : FVec F S32x128 .f32 :=
  addf a (mulf (broadcastTo S32x128 w broadcasts_S32x1_S32x128) o)

/-- The combination of four partial results of one head. -/
def combined (m0 m1 m2 m3 l0 l1 l2 l3 : Vec F S1x1x1x32x1 .f32) (o0 o1 o2 o3 : Vec F S1x1x1x32x128 .f32) : FVec F S32x128 .f32 :=
  let M := top (castCol m0) (castCol m1) (castCol m2) (castCol m3)
  let w0 := weight (castCol m0) M
  let w1 := weight (castCol m1) M
  let w2 := weight (castCol m2) M
  let w3 := weight (castCol m3) M
  divf
    (addO (addO (addO (addO (broadcast S32x128 (Scalar.ofBits .f32 0x00000000#32)) w0 (castRow o0)) w1 (castRow o1)) w2 (castRow o2)) w3 (castRow o3))
    (broadcastTo S32x128
      (addW (addW (addW (addW (broadcast S32x1 (Scalar.ofBits .f32 0x00000000#32)) w0 (castCol l0)) w1 (castCol l1)) w2 (castCol l2)) w3 (castCol l3))
      broadcasts_S32x1_S32x128)

abbrev loadCol (j b : Fin 4) (n : Fin 16) : Prog (TpuEff nD τ sig (Elt F) Λ₀ .tc) (Vec F S1x1x1x32x1 .f32) :=
  Prog.lift (.load oM (colR j b n).toLoadRect (View.loadsAt_vmem h_S1x1x1x32x1))
abbrev loadRow (j b : Fin 4) (r : Fin 9) : Prog (TpuEff nD τ sig (Elt F) Λ₀ .tc) (Vec F S1x1x1x32x128 .f32) :=
  Prog.lift (.load oM (oR j b r).toLoadRect (View.loadsAt_vmem h_S1x1x1x32x128))

/-- One head's combination, into the output. -/
def comb (b : Fin 4) (h : Fin 8) : Step F := do
  let m0 : Vec F S1x1x1x32x1 .f32 ← loadCol 0 b (mCol h)
  let m1 : Vec F S1x1x1x32x1 .f32 ← loadCol 1 b (mCol h)
  let m2 : Vec F S1x1x1x32x1 .f32 ← loadCol 2 b (mCol h)
  let m3 : Vec F S1x1x1x32x1 .f32 ← loadCol 3 b (mCol h)
  let l0 : Vec F S1x1x1x32x1 .f32 ← loadCol 0 b (lCol h)
  let o0 : Vec F S1x1x1x32x128 .f32 ← loadRow 0 b (oRow h)
  let l1 : Vec F S1x1x1x32x1 .f32 ← loadCol 1 b (lCol h)
  let o1 : Vec F S1x1x1x32x128 .f32 ← loadRow 1 b (oRow h)
  let l2 : Vec F S1x1x1x32x1 .f32 ← loadCol 2 b (lCol h)
  let o2 : Vec F S1x1x1x32x128 .f32 ← loadRow 2 b (oRow h)
  let l3 : Vec F S1x1x1x32x1 .f32 ← loadCol 3 b (lCol h)
  let o3 : Vec F S1x1x1x32x128 .f32 ← loadRow 3 b (oRow h)
  let _ : Vec F S1x32x1x128 .f32 ← Prog.lift (.load outM (qR b h).toLoadRect (View.loadsAt_vmem h_S1x32x1x128))
  Prog.lift (.store outM (qR b h) (shapeCast S1x32x1x128 (combined m0 m1 m2 m3 l0 l1 l2 l3 o0 o1 o2 o3) shapeCasts_S32x128_S1x32x1x128) Finset.univ (View.stores_vmem_bits_univ h_S1x32x1x128 rfl) (.inl rfl))

/-- `n` heads' combinations from number `h`. -/
def combs (b : Fin 4) (h : ℕ) : ℕ → Step F
  | 0 => pure ⟨⟩
  | n + 1 => do comb b (hOf h); combs b (h + 1) n

/-- The handshake with both neighbours. -/
def handshake (l r : Dev nD) : Step F := do
  semSignalWord l barS 1#32
  semSignalWord r barS 1#32
  semWaitWord barS 2#32

/-- The body. -/
def prog : Step F := do
  let d0 : Dev nD ← Prog.lift .deviceId
  handshake ⟨k0_dev1 d0, k0_dev1_lt d0⟩ ⟨k0_dev2 d0, k0_dev2_lt d0⟩
  fetch 0
  fetch 1
  fetch 2
  turns 0 8
  hop1 0 1 0 ⟨k0_dev3 d0, k0_dev3_lt d0⟩
  hop1 1 2 0 ⟨k0_dev4 d0, k0_dev4_lt d0⟩
  turns 8 8
  hop1 0 1 1 ⟨k0_dev5 d0, k0_dev5_lt d0⟩
  hop1 1 2 1 ⟨k0_dev6 d0, k0_dev6_lt d0⟩
  recv1 0
  hop2r 0 ⟨k0_dev7 d0, k0_dev7_lt d0⟩
  hop2l 0 ⟨k0_dev8 d0, k0_dev8_lt d0⟩
  turns 16 8
  hop1 0 1 2 ⟨k0_dev9 d0, k0_dev9_lt d0⟩
  hop1 1 2 2 ⟨k0_dev10 d0, k0_dev10_lt d0⟩
  recv1 1
  hop2r 1 ⟨k0_dev11 d0, k0_dev11_lt d0⟩
  hop2l 1 ⟨k0_dev12 d0, k0_dev12_lt d0⟩
  recv2 0
  combs 0 0 8
  turns 24 8
  hop1 0 1 3 ⟨k0_dev13 d0, k0_dev13_lt d0⟩
  hop1 1 2 3 ⟨k0_dev14 d0, k0_dev14_lt d0⟩
  recv1 2
  hop2r 2 ⟨k0_dev15 d0, k0_dev15_lt d0⟩
  hop2l 2 ⟨k0_dev16 d0, k0_dev16_lt d0⟩
  recv2 1
  combs 1 0 8
  recv1 3
  hop2r 3 ⟨k0_dev17 d0, k0_dev17_lt d0⟩
  hop2l 3 ⟨k0_dev18 d0, k0_dev18_lt d0⟩
  recv2 2
  combs 2 0 8
  recv2 3
  combs 3 0 8
  sent 0
  sent 1
  sent 2
  sent 3

set_option maxRecDepth 65536 in
/-- The printed body is that sequence of steps, by definitional unfolding. -/
theorem body_eq : (cc0__fused_body (F := F) (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 (Memref.whole cc0_scratch4) (Memref.isWhole_whole _) cc0_scratch5 cc0_scratch6 cc0_scratch7 cc0_scratch8)
    = prog := by
  chain_rfl

end Cert.KernelIdeal.Attn

end
-- ==== Proof.KernelIdeal.Geo.lean ====
/-
The regions of the partial-result buffer and of the rings of fetched heads, as element sets by coordinates, and what the
body's slices, loads, stores and transfers read and write there.
-/
module

public import proofs.«01_k».proof.Proof.KernelIdeal.Prog
public import Idealize.ShloMosaic.Lib.ValueLayout

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.Sem

variable {F : FTy → Type} [FloatOps F]

/-! ## Regions of the partial results -/

/-- Contents of the partial-result buffer. -/
abbrev OBuf (F : FTy → Type) : Type := (cc0_scratch4 : Ref sig .tc).ty.Contents (Elt F)
abbrev OIdx : Type := S4x4x9x32x128.Idx

/-- Batch `b` of place `j`: all rows; the first four; the last five. -/
def regA (j b : Fin 4) : Finset OIdx := (Rect.unit (s := S4x4x9x32x128) ![j.val, b.val, 0, 0, 0] S1x1x9x32x128.size (inb_all j b)).set
def regLo (j b : Fin 4) : Finset OIdx := (Rect.unit (s := S4x4x9x32x128) ![j.val, b.val, 0, 0, 0] S1x1x4x32x128.size (inb_lo j b)).set
def regHi (j b : Fin 4) : Finset OIdx := (Rect.unit (s := S4x4x9x32x128) ![j.val, b.val, 4, 0, 0] S1x1x5x32x128.size (inb_hi j b)).set

theorem forall_fin5 {P : Fin 5 → Prop} : (∀ a, P a) ↔ P 0 ∧ P 1 ∧ P 2 ∧ P 3 ∧ P 4 :=
  ⟨fun h => ⟨h 0, h 1, h 2, h 3, h 4⟩, fun h a => by
    fin_cases a <;> [exact h.1; exact h.2.1; exact h.2.2.1; exact h.2.2.2.1; exact h.2.2.2.2]⟩
theorem forall_fin4 {P : Fin 4 → Prop} : (∀ a, P a) ↔ P 0 ∧ P 1 ∧ P 2 ∧ P 3 :=
  ⟨fun h => ⟨h 0, h 1, h 2, h 3⟩, fun h a => by
    fin_cases a <;> [exact h.1; exact h.2.1; exact h.2.2.1; exact h.2.2.2]⟩
theorem forall_fin3 {P : Fin 3 → Prop} : (∀ a, P a) ↔ P 0 ∧ P 1 ∧ P 2 :=
  ⟨fun h => ⟨h 0, h 1, h 2⟩, fun h a => by fin_cases a <;> [exact h.1; exact h.2.1; exact h.2.2]⟩

theorem mem_regA {j b : Fin 4} {a0 a1 : Fin 4} {r : Fin 9} {q : Fin 32} {d : Fin 128} : (ix5 a0 a1 r q d : OIdx) ∈ regA j b ↔ a0 = j ∧ a1 = b := by
  unfold regA
  rw [Rect.mem_set_unit, forall_fin5]
  have h2 := r.isLt; have h3 := q.isLt; have h4 := d.isLt
  show (j.val ≤ a0.val ∧ a0.val < j.val + 1) ∧ (b.val ≤ a1.val ∧ a1.val < b.val + 1) ∧ (0 ≤ r.val ∧ r.val < 0 + 9) ∧ (0 ≤ q.val ∧ q.val < 0 + 32) ∧ (0 ≤ d.val ∧ d.val < 0 + 128) ↔ _
  rw [Fin.ext_iff, Fin.ext_iff]; omega
theorem mem_regLo {j b : Fin 4} {a0 a1 : Fin 4} {r : Fin 9} {q : Fin 32} {d : Fin 128} : (ix5 a0 a1 r q d : OIdx) ∈ regLo j b ↔ a0 = j ∧ a1 = b ∧ r.val < 4 := by
  unfold regLo
  rw [Rect.mem_set_unit, forall_fin5]
  have h2 := r.isLt; have h3 := q.isLt; have h4 := d.isLt
  show (j.val ≤ a0.val ∧ a0.val < j.val + 1) ∧ (b.val ≤ a1.val ∧ a1.val < b.val + 1) ∧ (0 ≤ r.val ∧ r.val < 0 + 4) ∧ (0 ≤ q.val ∧ q.val < 0 + 32) ∧ (0 ≤ d.val ∧ d.val < 0 + 128) ↔ _
  rw [Fin.ext_iff, Fin.ext_iff]; omega
theorem mem_regHi {j b : Fin 4} {a0 a1 : Fin 4} {r : Fin 9} {q : Fin 32} {d : Fin 128} : (ix5 a0 a1 r q d : OIdx) ∈ regHi j b ↔ a0 = j ∧ a1 = b ∧ 4 ≤ r.val := by
  unfold regHi
  rw [Rect.mem_set_unit, forall_fin5]
  have h2 := r.isLt; have h3 := q.isLt; have h4 := d.isLt
  show (j.val ≤ a0.val ∧ a0.val < j.val + 1) ∧ (b.val ≤ a1.val ∧ a1.val < b.val + 1) ∧ (4 ≤ r.val ∧ r.val < 4 + 5) ∧ (0 ≤ q.val ∧ q.val < 0 + 32) ∧ (0 ≤ d.val ∧ d.val < 0 + 128) ↔ _
  rw [Fin.ext_iff, Fin.ext_iff]; omega

theorem oidx_cases (i : OIdx) : ∃ (a0 a1 : Fin 4) (r : Fin 9) (q : Fin 32) (d : Fin 128), i = ix5 a0 a1 r q d :=
  ⟨i 0, i 1, i 2, i 3, i 4, eq_ix5 (n0 := 4) (n1 := 4) (n2 := 9) (n3 := 32) (n4 := 128) i⟩

theorem regA_eq (j b : Fin 4) : regA j b = regLo j b ∪ regHi j b := by
  ext i; obtain ⟨a0, a1, r, q, d, rfl⟩ := oidx_cases i
  rw [Finset.mem_union, mem_regA, mem_regLo, mem_regHi]
  have := r.isLt; omega
theorem regLo_disjoint (j b : Fin 4) : Disjoint (regLo j b) (regHi j b) :=
  Finset.disjoint_left.mpr fun i h h' => by
    obtain ⟨a0, a1, r, q, d, rfl⟩ := oidx_cases i
    rw [mem_regLo] at h; rw [mem_regHi] at h'; omega
theorem regA_disjoint {p p' : Fin 4 × Fin 4} (h : p ≠ p') : Disjoint (regA p.1 p.2) (regA p'.1 p'.2) :=
  Finset.disjoint_left.mpr fun i hi hi' => by
    obtain ⟨a0, a1, r, q, d, rfl⟩ := oidx_cases i
    rw [mem_regA] at hi hi'
    exact h (Prod.ext (hi.1.symm.trans hi'.1) (hi.2.symm.trans hi'.2))
theorem regA_cover : (Finset.univ : Finset (Fin 4 × Fin 4)).biUnion (fun p => regA p.1 p.2) = Finset.univ := by
  ext i; obtain ⟨a0, a1, r, q, d, rfl⟩ := oidx_cases i
  rw [Finset.mem_biUnion]
  exact ⟨fun _ => Finset.mem_univ _, fun _ => ⟨(a0, a1), Finset.mem_univ _, mem_regA.mpr ⟨rfl, rfl⟩⟩⟩

theorem set_all (j b : Fin 4) : (allM j b).view.set = regA j b := by
  unfold regA allM
  exact (View.set_reshape _ _).trans (View.set_slice_whole _ _)
theorem set_lo (j b : Fin 4) : (loM j b).view.set = regLo j b := by
  unfold regLo loM
  exact (View.set_reshape _ _).trans (View.set_slice_whole _ _)
theorem set_hi (j b : Fin 4) : (hiM j b).view.set = regHi j b := by
  unfold regHi hiM
  exact (View.set_reshape _ _).trans (View.set_slice_whole _ _)

/-! ## The slices' elements -/

theorem emb_all (j b : Fin 4) (r : Fin 9) (q : Fin 32) (d : Fin 128) : (allM j b).view.emb (ix3 r q d) = (ix5 j b r q d : OIdx) := by
  show (Rect.unit (s := S4x4x9x32x128) ![j.val, b.val, 0, 0, 0] S1x1x9x32x128.size (inb_all j b)).emb
    (Shape.reshapeEquiv (s := S1x1x9x32x128) (s' := S9x32x128) _ (ix3 r q d)) = _
  rw [reshapeEquiv_ix3_11abc]
  funext a; refine Fin.ext ?_
  fin_cases a
  · show j.val + 1 * 0 = j.val; omega
  · show b.val + 1 * 0 = b.val; omega
  · show 0 + 1 * r.val = r.val; omega
  · show 0 + 1 * q.val = q.val; omega
  · show 0 + 1 * d.val = d.val; omega
theorem emb_lo (j b : Fin 4) (r : Fin 4) (q : Fin 32) (d : Fin 128) :
    (loM j b).view.emb (ix3 r q d) = (ix5 j b ⟨r.val, by omega⟩ q d : OIdx) := by
  show (Rect.unit (s := S4x4x9x32x128) ![j.val, b.val, 0, 0, 0] S1x1x4x32x128.size (inb_lo j b)).emb
    (Shape.reshapeEquiv (s := S1x1x4x32x128) (s' := S4x32x128) _ (ix3 r q d)) = _
  rw [reshapeEquiv_ix3_11abc]
  funext a; refine Fin.ext ?_
  fin_cases a
  · show j.val + 1 * 0 = j.val; omega
  · show b.val + 1 * 0 = b.val; omega
  · show 0 + 1 * r.val = r.val; omega
  · show 0 + 1 * q.val = q.val; omega
  · show 0 + 1 * d.val = d.val; omega
theorem emb_hi (j b : Fin 4) (r : Fin 5) (q : Fin 32) (d : Fin 128) :
    (hiM j b).view.emb (ix3 r q d) = (ix5 j b ⟨4 + r.val, by omega⟩ q d : OIdx) := by
  show (Rect.unit (s := S4x4x9x32x128) ![j.val, b.val, 4, 0, 0] S1x1x5x32x128.size (inb_hi j b)).emb
    (Shape.reshapeEquiv (s := S1x1x5x32x128) (s' := S5x32x128) _ (ix3 r q d)) = _
  rw [reshapeEquiv_ix3_11abc]
  funext a; refine Fin.ext ?_
  fin_cases a
  · show j.val + 1 * 0 = j.val; omega
  · show b.val + 1 * 0 = b.val; omega
  · show 4 + 1 * r.val = 4 + r.val; omega
  · show 0 + 1 * q.val = q.val; omega
  · show 0 + 1 * d.val = d.val; omega

/-- What a copy of a batch from place `j` to place `j'` leaves at the destination is what the source held. -/
theorem moved_all (j j' b : Fin 4) (fs fd : OBuf F) (r : Fin 9) (q : Fin 32) (d : Fin 128) :
    (allM j' b).view.write (Elt F) fd ((allM j b).view.read (Elt F) fs) Finset.univ (ix5 j' b r q d : OIdx) = fs (ix5 j b r q d : OIdx) := by
  rw [← emb_all j' b r q d, ← emb_all j b r q d, View.write_emb_of_mem _ _ (Finset.mem_univ _), View.read_apply]; rfl
theorem moved_lo (j j' b : Fin 4) (fs fd : OBuf F) (r : Fin 9) (hr : r.val < 4) (q : Fin 32) (d : Fin 128) :
    (loM j' b).view.write (Elt F) fd ((loM j b).view.read (Elt F) fs) Finset.univ (ix5 j' b r q d : OIdx) = fs (ix5 j b r q d : OIdx) := by
  have h := emb_lo j' b ⟨r.val, hr⟩ q d
  have h' := emb_lo j b ⟨r.val, hr⟩ q d
  rw [show (ix5 j' b r q d : OIdx) = (loM j' b).view.emb (ix3 (⟨r.val, hr⟩ : Fin 4) q d) from h.symm,
    show (ix5 j b r q d : OIdx) = (loM j b).view.emb (ix3 (⟨r.val, hr⟩ : Fin 4) q d) from h'.symm,
    View.write_emb_of_mem _ _ (Finset.mem_univ _), View.read_apply]; rfl
theorem moved_hi (j j' b : Fin 4) (fs fd : OBuf F) (r : Fin 9) (hr : 4 ≤ r.val) (q : Fin 32) (d : Fin 128) :
    (hiM j' b).view.write (Elt F) fd ((hiM j b).view.read (Elt F) fs) Finset.univ (ix5 j' b r q d : OIdx) = fs (ix5 j b r q d : OIdx) := by
  have hr' : r.val - 4 < 5 := by omega
  have e : r = ⟨4 + (r.val - 4), by omega⟩ := Fin.ext (by show r.val = 4 + (r.val - 4); omega)
  have h := emb_hi j' b ⟨r.val - 4, hr'⟩ q d
  have h' := emb_hi j b ⟨r.val - 4, hr'⟩ q d
  rw [show (ix5 j' b r q d : OIdx) = (hiM j' b).view.emb (ix3 (⟨r.val - 4, hr'⟩ : Fin 5) q d) from (congrArg (fun r => (ix5 j' b r q d : OIdx)) e).trans h.symm,
    show (ix5 j b r q d : OIdx) = (hiM j b).view.emb (ix3 (⟨r.val - 4, hr'⟩ : Fin 5) q d) from (congrArg (fun r => (ix5 j b r q d : OIdx)) e).trans h'.symm,
    View.write_emb_of_mem _ _ (Finset.mem_univ _), View.read_apply]; rfl

/-! ## Loads and stores of rows and columns -/

theorem emb_row (j b : Fin 4) (r : Fin 9) (q : Fin 32) (d : Fin 128) :
    (oR j b r).emb (ix5 (0 : Fin 1) (0 : Fin 1) (0 : Fin 1) q d) = (ix5 j b r q d : OIdx) := by
  funext a; refine Fin.ext ?_
  fin_cases a
  · show j.val + 1 * 0 = j.val; omega
  · show b.val + 1 * 0 = b.val; omega
  · show r.val + 1 * 0 = r.val; omega
  · show 0 + 1 * q.val = q.val; omega
  · show 0 + 1 * d.val = d.val; omega
theorem col128 (n : Fin 16) : n.val < 128 := by omega
theorem emb_col (j b : Fin 4) (n : Fin 16) (q : Fin 32) :
    (colR j b n).emb (ix5 (0 : Fin 1) (0 : Fin 1) (0 : Fin 1) q (0 : Fin 1)) = (ix5 j b 8 q ⟨n.val, col128 n⟩ : OIdx) := by
  funext a; refine Fin.ext ?_
  fin_cases a
  · show j.val + 1 * 0 = j.val; omega
  · show b.val + 1 * 0 = b.val; omega
  · show 8 + 1 * 0 = 8; omega
  · show 0 + 1 * q.val = q.val; omega
  · show n.val + 1 * 0 = n.val; omega

theorem set_row_subset (j b : Fin 4) (r : Fin 9) : (oR j b r).set ⊆ regA j b := fun i hi => by
  obtain ⟨a0, a1, r', q, d, rfl⟩ := oidx_cases i
  rw [Rect.mem_set_unit, forall_fin5] at hi
  have h : (j.val ≤ a0.val ∧ a0.val < j.val + 1) ∧ (b.val ≤ a1.val ∧ a1.val < b.val + 1) := ⟨hi.1, hi.2.1⟩
  exact mem_regA.mpr ⟨Fin.ext (by omega), Fin.ext (by omega)⟩
theorem mem_row {j b : Fin 4} {r : Fin 9} {a0 a1 : Fin 4} {r' : Fin 9} {q : Fin 32} {d : Fin 128} :
    (ix5 a0 a1 r' q d : OIdx) ∈ (oR j b r).set ↔ a0 = j ∧ a1 = b ∧ r' = r := by
  rw [Rect.mem_set_unit, forall_fin5]
  have h3 := q.isLt; have h4 := d.isLt
  show (j.val ≤ a0.val ∧ a0.val < j.val + 1) ∧ (b.val ≤ a1.val ∧ a1.val < b.val + 1) ∧ (r.val ≤ r'.val ∧ r'.val < r.val + 1) ∧ (0 ≤ q.val ∧ q.val < 0 + 32) ∧ (0 ≤ d.val ∧ d.val < 0 + 128) ↔ _
  rw [Fin.ext_iff, Fin.ext_iff, Fin.ext_iff]; omega
theorem mem_col {j b : Fin 4} {n : Fin 16} {a0 a1 : Fin 4} {r' : Fin 9} {q : Fin 32} {d : Fin 128} :
    (ix5 a0 a1 r' q d : OIdx) ∈ (colR j b n).set ↔ a0 = j ∧ a1 = b ∧ r' = 8 ∧ d.val = n.val := by
  rw [Rect.mem_set_unit, forall_fin5]
  have h3 := q.isLt; have h4 := d.isLt
  show (j.val ≤ a0.val ∧ a0.val < j.val + 1) ∧ (b.val ≤ a1.val ∧ a1.val < b.val + 1) ∧ (8 ≤ r'.val ∧ r'.val < 8 + 1) ∧ (0 ≤ q.val ∧ q.val < 0 + 32) ∧ (n.val ≤ d.val ∧ d.val < n.val + 1) ↔ _
  rw [Fin.ext_iff, Fin.ext_iff, Fin.ext_iff]
  show _ ↔ _ ∧ _ ∧ r'.val = 8 ∧ _
  omega
theorem set_col_subset (j b : Fin 4) (n : Fin 16) : (colR j b n).set ⊆ regA j b := fun i hi => by
  obtain ⟨a0, a1, r', q, d, rfl⟩ := oidx_cases i
  have h := mem_col.mp hi
  exact mem_regA.mpr ⟨h.1, h.2.1⟩

/-- A row loaded; a column loaded. -/
theorem load_row (j b : Fin 4) (r : Fin 9) (f : OBuf F) (q : Fin 32) (d : Fin 128) :
    (oM.view.readAt (Elt F) (oR j b r).toLoadRect f : Vec F S1x1x1x32x128 .f32) (ix5 (0 : Fin 1) (0 : Fin 1) (0 : Fin 1) q d) = f (ix5 j b r q d : OIdx) := by
  rw [← emb_row]; rfl
theorem load_col (j b : Fin 4) (n : Fin 16) (f : OBuf F) (q : Fin 32) :
    (oM.view.readAt (Elt F) (colR j b n).toLoadRect f : Vec F S1x1x1x32x1 .f32) (ix5 (0 : Fin 1) (0 : Fin 1) (0 : Fin 1) q (0 : Fin 1)) = f (ix5 j b 8 q ⟨n.val, col128 n⟩ : OIdx) := by
  rw [← emb_col]; rfl

theorem setOn_load_row (j b : Fin 4) (r : Fin 9) : oM.view.setOn (oR j b r).toLoadRect.set ⊆ regA j b := by
  show Finset.map (View.whole cc0_scratch4).emb (oR j b r).set ⊆ _
  rw [show Finset.map (View.whole cc0_scratch4).emb (oR j b r).set = (oR j b r).set from Finset.map_refl]
  exact set_row_subset j b r
theorem setOn_load_col (j b : Fin 4) (n : Fin 16) : oM.view.setOn (colR j b n).toLoadRect.set ⊆ regA j b := by
  show Finset.map (View.whole cc0_scratch4).emb (colR j b n).set ⊆ _
  rw [show Finset.map (View.whole cc0_scratch4).emb (colR j b n).set = (colR j b n).set from Finset.map_refl]
  exact set_col_subset j b n
theorem access_row (j b : Fin 4) (r : Fin 9) : ((oM.access (oR j b r)).setOn Finset.univ : Finset OIdx) = (oR j b r).set := by
  rw [View.setOn_univ]; exact View.set_slice_whole _ _
theorem access_col (j b : Fin 4) (n : Fin 16) : ((oM.access (colR j b n)).setOn Finset.univ : Finset OIdx) = (colR j b n).set := by
  rw [View.setOn_univ]; exact View.set_slice_whole _ _

/-- A row stored: the row takes it, every other element keeps what it held; -/
theorem store_row (j b : Fin 4) (r : Fin 9) (f : OBuf F) (w : Vec F S1x1x1x32x128 .f32) (q : Fin 32) (d : Fin 128) :
    ((oM.access (oR j b r)).write (Elt F) f w Finset.univ : OBuf F) (ix5 j b r q d : OIdx) = w (ix5 (0 : Fin 1) (0 : Fin 1) (0 : Fin 1) q d) := by
  rw [show (ix5 j b r q d : OIdx) = (oM.access (oR j b r)).emb (ix5 (0 : Fin 1) (0 : Fin 1) (0 : Fin 1) q d) from (emb_row j b r q d).symm,
    View.write_emb_of_mem _ _ (Finset.mem_univ _)]; rfl
theorem store_row_ne (j b : Fin 4) (r : Fin 9) (f : OBuf F) (w : Vec F S1x1x1x32x128 .f32) {r' : Fin 9} (h : r' ≠ r) (q : Fin 32) (d : Fin 128) :
    ((oM.access (oR j b r)).write (Elt F) f w Finset.univ : OBuf F) (ix5 j b r' q d : OIdx) = f (ix5 j b r' q d : OIdx) :=
  View.write_of_not_mem _ _ _ (by rw [access_row, mem_row]; exact fun h' => h h'.2.2)
/-- a column stored likewise. -/
theorem store_col (j b : Fin 4) (n : Fin 16) (f : OBuf F) (w : Vec F S1x1x1x32x1 .f32) (q : Fin 32) :
    ((oM.access (colR j b n)).write (Elt F) f w Finset.univ : OBuf F) (ix5 j b 8 q ⟨n.val, col128 n⟩ : OIdx) = w (ix5 (0 : Fin 1) (0 : Fin 1) (0 : Fin 1) q (0 : Fin 1)) := by
  rw [show (ix5 j b 8 q ⟨n.val, col128 n⟩ : OIdx) = (oM.access (colR j b n)).emb (ix5 (0 : Fin 1) (0 : Fin 1) (0 : Fin 1) q (0 : Fin 1)) from (emb_col j b n q).symm,
    View.write_emb_of_mem _ _ (Finset.mem_univ _)]; rfl
theorem store_col_ne (j b : Fin 4) (n : Fin 16) (f : OBuf F) (w : Vec F S1x1x1x32x1 .f32) (r : Fin 9) (q : Fin 32) (d : Fin 128) (h : r ≠ 8 ∨ d.val ≠ n.val) :
    ((oM.access (colR j b n)).write (Elt F) f w Finset.univ : OBuf F) (ix5 j b r q d : OIdx) = f (ix5 j b r q d : OIdx) :=
  View.write_of_not_mem _ _ _ (by rw [access_col, mem_col]; exact fun h' => h.elim (· h'.2.2.1) (· h'.2.2.2))

/-! ## The rings of fetched heads -/

/-- Slot `s` of a ring. -/
def slotSet (s : Fin 4) : Finset S4x4096x128.Idx := (slotR s).set

theorem sidx_cases (i : S4x4096x128.Idx) : ∃ (a0 : Fin 4) (x : Fin 4096) (d : Fin 128), i = ix3 a0 x d :=
  ⟨i 0, i 1, i 2, eq_ix3 (n0 := 4) (n1 := 4096) (n2 := 128) i⟩
theorem mem_slotSet {s a0 : Fin 4} {x : Fin 4096} {d : Fin 128} : (ix3 a0 x d : S4x4096x128.Idx) ∈ slotSet s ↔ a0 = s := by
  unfold slotSet
  rw [Rect.mem_set_unit, forall_fin3]
  have h3 := x.isLt; have h4 := d.isLt
  show (s.val ≤ a0.val ∧ a0.val < s.val + 1) ∧ (0 ≤ x.val ∧ x.val < 0 + 4096) ∧ (0 ≤ d.val ∧ d.val < 0 + 128) ↔ _
  rw [Fin.ext_iff]; omega
theorem slotSet_disjoint {s s' : Fin 4} (h : s ≠ s') : Disjoint (slotSet s) (slotSet s') :=
  Finset.disjoint_left.mpr fun i hi hi' => by
    obtain ⟨a0, x, d, rfl⟩ := sidx_cases i
    rw [mem_slotSet] at hi hi'
    exact h (hi.symm.trans hi')
theorem slotSet_cover : (Finset.univ : Finset (Fin 4)).biUnion slotSet = Finset.univ := by
  ext i; obtain ⟨a0, x, d, rfl⟩ := sidx_cases i
  rw [Finset.mem_biUnion]
  exact ⟨fun _ => Finset.mem_univ _, fun _ => ⟨a0, Finset.mem_univ _, mem_slotSet.mpr rfl⟩⟩

theorem set_kslot (s : Fin 4) : (slotM kbM s).view.set = slotSet s := by
  unfold slotSet slotM
  exact (View.set_reshape _ _).trans (View.set_slice_whole _ _)
theorem set_vslot (s : Fin 4) : (slotM vbM s).view.set = slotSet s := by
  unfold slotSet slotM
  exact (View.set_reshape _ _).trans (View.set_slice_whole _ _)
theorem setOn_load_kslot (s : Fin 4) : kbM.view.setOn (slotR s).toLoadRect.set ⊆ slotSet s := by
  show Finset.map (View.whole cc0_scratch0).emb (slotR s).set ⊆ _
  rw [show Finset.map (View.whole cc0_scratch0).emb (slotR s).set = (slotR s).set from Finset.map_refl]
  exact Finset.Subset.refl _
theorem setOn_load_vslot (s : Fin 4) : vbM.view.setOn (slotR s).toLoadRect.set ⊆ slotSet s := by
  show Finset.map (View.whole cc0_scratch1).emb (slotR s).set ⊆ _
  rw [show Finset.map (View.whole cc0_scratch1).emb (slotR s).set = (slotR s).set from Finset.map_refl]
  exact Finset.Subset.refl _

theorem emb_slot (s : Fin 4) (x : Fin 4096) (d : Fin 128) :
    (slotR s).emb (ix3 (0 : Fin 1) x d) = (ix3 s x d : S4x4096x128.Idx) := by
  funext a; refine Fin.ext ?_
  fin_cases a
  · show s.val + 1 * 0 = s.val; omega
  · show 0 + 1 * x.val = x.val; omega
  · show 0 + 1 * d.val = d.val; omega

theorem emb_slotM (A : Memref sig .tc .vmem S4x4096x128 .f32) (s : Fin 4) (x : Fin 4096) (d : Fin 128) :
    (slotM A s).view.emb (ix2 x d) = A.view.emb (ix3 s x d : S4x4096x128.Idx) := by
  show A.view.emb ((slotR s).emb (Shape.reshapeEquiv (s := S1x4096x128) (s' := S4096x128) _ (ix2 x d))) = _
  rw [reshapeEquiv_ix2_1ab]
  exact congrArg _ (emb_slot s x d)

theorem emb_headM (A : Memref sig .tc .hbm S4x4096x8x128 .f32) (b : Fin 4) (h : Fin 8) (x : Fin 4096) (d : Fin 128) :
    (headM A b h).view.emb (ix2 x d) = A.view.emb (ix4 b x h d : S4x4096x8x128.Idx) := by
  show A.view.emb ((Rect.unit (s := S4x4096x8x128) ![b.val, 0, h.val, 0] S1x4096x1x128.size (inb_kv b h)).emb
    (Shape.reshapeEquiv (s := S1x4096x1x128) (s' := S4096x128) _ (ix2 x d))) = _
  rw [Shape.reshapeEquiv_eq_of_rowMajor (s := S1x4096x1x128) (s' := S4096x128) _ (y := ix4 (0 : Fin 1) x (0 : Fin 1) d) (by
    rw [Shape.rowMajor_val_four, Shape.rowMajor_val_two]
    show (((0 * 4096 + x.val) * 1 + 0) * 128 + d.val) = x.val * 128 + d.val
    omega)]
  refine congrArg _ ?_
  funext a; refine Fin.ext ?_
  fin_cases a
  · show b.val + 1 * 0 = b.val; omega
  · show 0 + 1 * x.val = x.val; omega
  · show h.val + 1 * 0 = h.val; omega
  · show 0 + 1 * d.val = d.val; omega

/-- A device's keys (or values). -/
abbrev KBuf (F : FTy → Type) : Type := S4x4096x8x128.Idx → Elt F .f32
/-- One head of one batch of them, as the body loads it. -/
def headOf (K : KBuf F) (b : Fin 4) (h : Fin 8) : Vec F S1x4096x128 .f32 := fun x => K (ix4 b (x 1) h (x 2) : S4x4096x8x128.Idx)

/-- What the fetch of a head leaves in its slot, loaded. -/
theorem fetched_k (s : Fin 4) (b : Fin 4) (h : Fin 8) (fd : (cc0_scratch0 : Ref sig .tc).ty.Contents (Elt F)) (K : (main_arg1 : Ref sig .tc).ty.Contents (Elt F)) :
    (kbM.view.readAt (Elt F) (slotR s).toLoadRect ((slotM kbM s).view.write (Elt F) fd ((headM kM b h).view.read (Elt F) K) Finset.univ) : Vec F S1x4096x128 .f32)
      = headOf K b h := by
  funext x
  obtain ⟨u, y, d, rfl⟩ : ∃ (u : Fin 1) (y : Fin 4096) (d : Fin 128), x = ix3 u y d := ⟨x 0, x 1, x 2, eq_ix3 (n0 := 1) (n1 := 4096) (n2 := 128) x⟩
  rw [Subsingleton.elim u 0]
  show (slotM kbM s).view.write (Elt F) fd ((headM kM b h).view.read (Elt F) K) Finset.univ ((slotR s).emb (ix3 (0 : Fin 1) y d)) = _
  rw [emb_slot, show (ix3 s y d : S4x4096x128.Idx) = (slotM kbM s).view.emb (ix2 y d) from (emb_slotM kbM s y d).symm,
    View.write_emb_of_mem _ _ (Finset.mem_univ _), View.read_apply, emb_headM]; rfl
theorem fetched_v (s : Fin 4) (b : Fin 4) (h : Fin 8) (fd : (cc0_scratch1 : Ref sig .tc).ty.Contents (Elt F)) (K : (main_arg2 : Ref sig .tc).ty.Contents (Elt F)) :
    (vbM.view.readAt (Elt F) (slotR s).toLoadRect ((slotM vbM s).view.write (Elt F) fd ((headM vM b h).view.read (Elt F) K) Finset.univ) : Vec F S1x4096x128 .f32)
      = headOf K b h := by
  funext x
  obtain ⟨u, y, d, rfl⟩ : ∃ (u : Fin 1) (y : Fin 4096) (d : Fin 128), x = ix3 u y d := ⟨x 0, x 1, x 2, eq_ix3 (n0 := 1) (n1 := 4096) (n2 := 128) x⟩
  rw [Subsingleton.elim u 0]
  show (slotM vbM s).view.write (Elt F) fd ((headM vM b h).view.read (Elt F) K) Finset.univ ((slotR s).emb (ix3 (0 : Fin 1) y d)) = _
  rw [emb_slot, show (ix3 s y d : S4x4096x128.Idx) = (slotM vbM s).view.emb (ix2 y d) from (emb_slotM vbM s y d).symm,
    View.write_emb_of_mem _ _ (Finset.mem_univ _), View.read_apply, emb_headM]; rfl

/-! ## The queries and the output -/

theorem emb_q (b : Fin 4) (h : Fin 8) (q : Fin 32) (d : Fin 128) :
    (qR b h).emb (ix4 (0 : Fin 1) q (0 : Fin 1) d) = (ix4 b q h d : S4x32x8x128.Idx) := by
  funext a; refine Fin.ext ?_
  fin_cases a
  · show b.val + 1 * 0 = b.val; omega
  · show 0 + 1 * q.val = q.val; omega
  · show h.val + 1 * 0 = h.val; omega
  · show 0 + 1 * d.val = d.val; omega

abbrev QBuf (F : FTy → Type) : Type := S4x32x8x128.Idx → Elt F .f32
/-- One head of one batch of the queries, as the body loads it. -/
def qOf (Q : QBuf F) (b : Fin 4) (h : Fin 8) : Vec F S1x32x1x128 .f32 := fun x => Q (ix4 b (x 1) h (x 3) : S4x32x8x128.Idx)

theorem load_q (b : Fin 4) (h : Fin 8) (Q : (cc0_stg0_0 : Ref sig .tc).ty.Contents (Elt F)) :
    (qM.view.readAt (Elt F) (qR b h).toLoadRect Q : Vec F S1x32x1x128 .f32) = qOf Q b h := by
  funext x
  obtain ⟨u, q, v, d, rfl⟩ : ∃ (u : Fin 1) (q : Fin 32) (v : Fin 1) (d : Fin 128), x = ix4 u q v d :=
    ⟨x 0, x 1, x 2, x 3, eq_ix4 (n0 := 1) (n1 := 32) (n2 := 1) (n3 := 128) x⟩
  rw [Subsingleton.elim u 0, Subsingleton.elim v 0]
  show Q ((qR b h).emb (ix4 (0 : Fin 1) q (0 : Fin 1) d)) = _
  rw [emb_q]; rfl

theorem mem_q {b b' : Fin 4} {h h' : Fin 8} {q : Fin 32} {d : Fin 128} :
    (ix4 b' q h' d : S4x32x8x128.Idx) ∈ (qR b h).set ↔ b' = b ∧ h' = h := by
  rw [Rect.mem_set_unit, forall_fin4]
  have h3 := q.isLt; have h4 := d.isLt
  show (b.val ≤ b'.val ∧ b'.val < b.val + 1) ∧ (0 ≤ q.val ∧ q.val < 0 + 32) ∧ (h.val ≤ h'.val ∧ h'.val < h.val + 1) ∧ (0 ≤ d.val ∧ d.val < 0 + 128) ↔ _
  rw [Fin.ext_iff, Fin.ext_iff]; omega
theorem access_out (b : Fin 4) (h : Fin 8) : ((outM.access (qR b h)).setOn Finset.univ : Finset S4x32x8x128.Idx) = (qR b h).set := by
  rw [View.setOn_univ]; exact View.set_slice_whole _ _
/-- A head's block stored into the output: the block takes it, every other element keeps what it held. -/
theorem store_out (b : Fin 4) (h : Fin 8) (f : (cc0_stg1_0 : Ref sig .tc).ty.Contents (Elt F)) (w : Vec F S1x32x1x128 .f32) (q : Fin 32) (d : Fin 128) :
    ((outM.access (qR b h)).write (Elt F) f w Finset.univ : (cc0_stg1_0 : Ref sig .tc).ty.Contents (Elt F)) (ix4 b q h d : S4x32x8x128.Idx)
      = w (ix4 (0 : Fin 1) q (0 : Fin 1) d) := by
  rw [show (ix4 b q h d : S4x32x8x128.Idx) = (outM.access (qR b h)).emb (ix4 (0 : Fin 1) q (0 : Fin 1) d) from (emb_q b h q d).symm,
    View.write_emb_of_mem _ _ (Finset.mem_univ _)]; rfl
theorem store_out_ne (b : Fin 4) (h : Fin 8) (f : (cc0_stg1_0 : Ref sig .tc).ty.Contents (Elt F)) (w : Vec F S1x32x1x128 .f32) {b' : Fin 4} {h' : Fin 8}
    (hne : ¬ (b' = b ∧ h' = h)) (q : Fin 32) (d : Fin 128) :
    ((outM.access (qR b h)).write (Elt F) f w Finset.univ : (cc0_stg1_0 : Ref sig .tc).ty.Contents (Elt F)) (ix4 b' q h' d : S4x32x8x128.Idx)
      = f (ix4 b' q h' d : S4x32x8x128.Idx) :=
  View.write_of_not_mem _ _ _ (by rw [access_out, mem_q]; exact hne)

end Cert.KernelIdeal.Attn

end
-- ==== Proof.KernelIdeal.Sched.lean ====
/-
The protocol of the four devices: the cells (the runtime's barrier semaphore and the thirty-two semaphores of the remote
copies), what each device writes, what every signal and every copy hands over, what each device owes at launch, and the
order of the waits.
-/
module

public import proofs.«01_k».proof.Proof.KernelIdeal.Geo

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the protocol's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EX : Emb (UB × Counters) (MT nD τ sig Unit (Elt F) ℕ UU ℕ) := embR
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER embR; infer_instance

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = prv (prv c) := by revert c; decide
def ring : Dev nD ≃ Dev nD := ⟨nxt, prv, prv_nxt, nxt_prv⟩

/-- The neighbour a direction names: to the right, to the left; and the one it comes from. -/
def tow (d : Fin 2) (c : Dev nD) : Dev nD := if d = 0 then nxt c else prv c
theorem tow_zero (c : Dev nD) : tow 0 c = nxt c := rfl
theorem tow_one (c : Dev nD) : tow 1 c = prv c := rfl

/-! ## The memory the launch starts from -/

variable (m : (ℓ : Loc nD τ sig) → Buf (Elt F) ℓ) (ρ : Dev nD → PrngReg)

def s₀ : MemSt nD τ sig (Elt F) := ⟨m, fun _ => 0, ρ⟩

/-- The queries as staged, the keys, the values. -/
def xq (c : Dev nD) : (cc0_stg0_0 : Ref sig .tc).ty.Contents (Elt F) :=
  (win0_0.blk (0 : Fin 1)).view.read (Elt F) (m ((c : Thread nD τ).loc main_arg0))
def xk (c : Dev nD) : (main_arg1 : Ref sig .tc).ty.Contents (Elt F) := m ((c : Thread nD τ).loc main_arg1)
def xv (c : Dev nD) : (main_arg2 : Ref sig .tc).ty.Contents (Elt F) := m ((c : Thread nD τ).loc main_arg2)

/-- The head a statistics column belongs to. -/
def colHead (d : Fin 128) : Fin 8 := ⟨d.val / 2 % 8, Nat.mod_lt _ (by decide)⟩

/-- What a batch of partial results holds, by row, query and lane: rows 0 to 7 the heads' weighed values; row 8, in its
    first sixteen lanes, each head's row maximum and row sum. -/
def part (Q : QBuf F) (K V : KBuf F) (b : Fin 4) (r : Fin 9) (q : Fin 32) (d : Fin 128) : Elt F .f32 :=
  if h : r.val < 8 then weighed (qOf Q b ⟨r.val, h⟩) (headOf K b ⟨r.val, h⟩) (headOf V b ⟨r.val, h⟩) (ix2 q d)
  else if d.val % 2 = 0 then rowMax (qOf Q b (colHead d)) (headOf K b (colHead d)) (ix2 q (0 : Fin 1))
  else rowSum (qOf Q b (colHead d)) (headOf K b (colHead d)) (ix2 q (0 : Fin 1))

abbrev Part (F : FTy → Type) : Type := Fin 9 → Fin 32 → Fin 128 → Elt F .f32
/-- Device `c`'s partial results of batch `b`. -/
def partOf (c : Dev nD) (b : Fin 4) : Part F := part (xq m c) (xk m c) (xv m c) b

/-- Place `j`, batch `b` of the buffer holds `X` on the rows `R`, wherever a value was computed. -/
def Good (j b : Fin 4) (X : Part F) (R : Fin 9 → Prop) (f : OBuf F) : Prop :=
  ∀ r q d, R r → (r.val < 8 ∨ d.val < 16) → f (ix5 j b r q d : OIdx) = X r q d

def anyRow : Fin 9 → Prop := fun _ => True
def loRow : Fin 9 → Prop := fun r => r.val < 4
def hiRow : Fin 9 → Prop := fun r => 4 ≤ r.val

/-! ## Parts of the buffer -/

def oPts (c : Dev nD) (S : Finset OIdx) (q : PosShare TreeShare) (f : OBuf F) : sProp 𝕄 :=
  ((c : Thread nD τ).loc cc0_scratch4) ↦[S]{q} f

instance oPts_storable (c : Dev nD) (S) (q) (f) : BI.Storable (upEmb : UEmb _ 𝕄) (oPts (F := F) c S q f) := by unfold oPts; infer_instance

/-- Held at some contents; -/
def oAny (c : Dev nD) (S : Finset OIdx) (q : PosShare TreeShare) : sProp 𝕄 := iprop(∃ f, oPts c S q f)
/-- held at contents good on the rows `R`. -/
def oGood (c : Dev nD) (j b : Fin 4) (X : Part F) (R : Fin 9 → Prop) (S : Finset OIdx) (q : PosShare TreeShare) : sProp 𝕄 :=
  iprop(∃ f, ⌜Good j b X R f⌝ ∗ oPts c S q f)

instance oAny_storable (c : Dev nD) (S) (q) : BI.Storable (upEmb : UEmb _ 𝕄) (oAny (F := F) c S q) := by unfold oAny; infer_instance
instance oGood_storable (c : Dev nD) (j b) (X) (R) (S) (q) : BI.Storable (upEmb : UEmb _ 𝕄) (oGood (F := F) c j b X R S q) := by unfold oGood; infer_instance

/-- The shares the copies of the local results travel under: the right half stays for the loads. -/
abbrev qR0 : PosShare TreeShare := fullShare.right
abbrev qL0 : PosShare TreeShare := fullShare.left
abbrev qSend (d : Fin 2) : PosShare TreeShare := if d = 0 then fullShare.left.left else fullShare.left.right

/-! ## The schedule -/

/-- The part of a neighbour's buffer the first copy in direction `d` writes, and the second. -/
def zoneA (c : Dev nD) (d : Fin 2) (b : Fin 4) : sProp 𝕄 :=
  if d = 0 then oAny (nxt c) (regA 1 b) fullShare else oAny (prv c) (regA 2 b) fullShare
def zoneB (c : Dev nD) (d : Fin 2) (b : Fin 4) : sProp 𝕄 :=
  if d = 0 then oAny (nxt c) (regLo 3 b) fullShare else oAny (prv c) (regHi 3 b) fullShare

/-- The four batches' assertions. -/
def all4 (P : Fin 4 → sProp 𝕄) : sProp 𝕄 := iprop(P 0 ∗ P 1 ∗ P 2 ∗ P 3)

/-- What the barrier signal from the neighbour in direction `d` hands over: that neighbour's zones. -/
def barPay (c : Dev nD) (d : Fin 2) : sProp 𝕄 := all4 fun b => iprop(zoneA c d b ∗ zoneB c d b)

/-- What arrives at device `c`: from the left its left neighbour's results, from the right its right neighbour's; -/
def gotA (c : Dev nD) (d : Fin 2) (b : Fin 4) : sProp 𝕄 :=
  if d = 0 then oGood c 1 b (partOf m (prv c) b) anyRow (regA 1 b) fullShare
  else oGood c 2 b (partOf m (nxt c) b) anyRow (regA 2 b) fullShare
/-- and the two parts of the results from across the ring. -/
def gotB (c : Dev nD) (d : Fin 2) (b : Fin 4) : sProp 𝕄 :=
  if d = 0 then oGood c 3 b (partOf m (prv (prv c)) b) loRow (regLo 3 b) fullShare
  else oGood c 3 b (partOf m (prv (prv c)) b) hiRow (regHi 3 b) fullShare
/-- What a copy gives back once it has left. -/
def leftA (c : Dev nD) (d : Fin 2) (b : Fin 4) : sProp 𝕄 := oAny c (regA 0 b) (qSend d)
def leftB (c : Dev nD) (d : Fin 2) (b : Fin 4) : sProp 𝕄 :=
  if d = 0 then oAny c (regLo 1 b) qL0 else oAny c (regHi 2 b) qL0

instance zoneA_storable (c : Dev nD) (d b) : BI.Storable (upEmb : UEmb _ 𝕄) (zoneA (F := F) c d b) := by unfold zoneA; split <;> infer_instance
instance zoneB_storable (c : Dev nD) (d b) : BI.Storable (upEmb : UEmb _ 𝕄) (zoneB (F := F) c d b) := by unfold zoneB; split <;> infer_instance
instance barPay_storable (c : Dev nD) (d) : BI.Storable (upEmb : UEmb _ 𝕄) (barPay (F := F) c d) := by unfold barPay all4; infer_instance
instance gotA_storable (c : Dev nD) (d b) : BI.Storable (upEmb : UEmb _ 𝕄) (gotA (F := F) m c d b) := by unfold gotA; split <;> infer_instance
instance gotB_storable (c : Dev nD) (d b) : BI.Storable (upEmb : UEmb _ 𝕄) (gotB (F := F) m c d b) := by unfold gotB; split <;> infer_instance
instance leftA_storable (c : Dev nD) (d b) : BI.Storable (upEmb : UEmb _ 𝕄) (leftA (F := F) c d b) := by unfold leftA; infer_instance
instance leftB_storable (c : Dev nD) (d b) : BI.Storable (upEmb : UEmb _ 𝕄) (leftB (F := F) c d b) := by unfold leftB; split <;> infer_instance

/-- The direction and the batch a copy's semaphore belongs to, by its number from 10: eight send semaphores of the first
    copies, eight receive, eight send of the second, eight receive. -/
def dirOf (n : ℕ) : Fin 2 := ⟨(n - 10) / 4 % 2, Nat.mod_lt _ (by decide)⟩
def batOf (n : ℕ) : Fin 4 := ⟨(n - 10) % 4, Nat.mod_lt _ (by decide)⟩

def dmaPay (c : Dev nD) (n : ℕ) : sProp 𝕄 :=
  if n < 10 then iprop(emp)
  else if n < 18 then leftA c (dirOf n) (batOf n)
  else if n < 26 then gotA m c (dirOf n) (batOf n)
  else if n < 34 then leftB c (dirOf n) (batOf n)
  else gotB m c (dirOf n) (batOf n)

instance dmaPay_storable (c : Dev nD) (n : ℕ) : BI.Storable (upEmb : UEmb _ 𝕄) (dmaPay (F := F) m c n) := by
  unfold dmaPay; (repeat' split) <;> infer_instance

/-- The credit of a whole batch, of its first four rows, of its last five. -/
def nAll : ℕ := (allM 0 0).view.dmaCredit
def nLo : ℕ := (loM 0 0).view.dmaCredit
def nHi : ℕ := (hiM 0 0).view.dmaCredit
def nB (d : Fin 2) : ℕ := if d = 0 then nLo else nHi
theorem nAll_pos : 0 < nAll := View.dmaCredit_pos _ (by decide)
theorem nLo_pos : 0 < nLo := View.dmaCredit_pos _ (by decide)
theorem nHi_pos : 0 < nHi := View.dmaCredit_pos _ (by decide)
theorem nB_pos (d : Fin 2) : 0 < nB d := by unfold nB; split; exacts [nLo_pos, nHi_pos]

def dmaAmt (n : ℕ) : ℕ := if n < 26 then nAll else nB (dirOf n)

/-- One round, round 0: the barrier cell's two duties (`false` from the left neighbour, `true` from the right) of one unit
    each; one duty of each copy's cell. -/
def rd : Rounds.Schedule (GSem nD τ sig) Bool 𝕄 where
  duties g r := if r = 0 ∧ g.1.2 = .tc then (match g.2 with
      | .reg s => if s = barS then Finset.univ else ∅
      | .dma q => if 10 ≤ q.val then {false} else ∅)
    else ∅
  unitless _ := False
  amount g _ _ := match g.2 with
    | .reg _ => 1
    | .dma q => dmaAmt q.val
  payload g _ d := match g.2 with
    | .reg _ => barPay g.1.1 (if d then 0 else 1)
    | .dma q => dmaPay m g.1.1 q.val
  amount_pos g _ _ _ := by
    rcases h : g.2 with s | q
    · exact Nat.one_pos
    · show 0 < dmaAmt q.val
      unfold dmaAmt; split; exacts [nAll_pos, nB_pos _]

instance rd_payload_storable (g : GSem nD τ sig) (r : ℕ) (d : Bool) : BI.Storable (upEmb : UEmb _ 𝕄) ((rd (F := F) m).payload g r d) := by
  show BI.Storable upEmb (match g.2 with
    | .reg _ => barPay g.1.1 (if d then 0 else 1)
    | .dma q => dmaPay m g.1.1 q.val)
  split <;> infer_instance

abbrev barCell (c : Dev nD) : GSem nD τ sig := ((c : Thread nD τ), .reg barS)
abbrev dmaCell (c : Dev nD) (q : DmaSem sig) : GSem nD τ sig := ((c : Thread nD τ), .dma q)

theorem so1_val (d : Fin 2) (b : Fin 4) : (so1 d b).val = 10 + 4 * d.val + b.val := by revert d b; decide
theorem ro1_val (d : Fin 2) (b : Fin 4) : (ro1 d b).val = 18 + 4 * d.val + b.val := by revert d b; decide
theorem so2_val (d : Fin 2) (b : Fin 4) : (so2 d b).val = 26 + 4 * d.val + b.val := by revert d b; decide
theorem ro2_val (d : Fin 2) (b : Fin 4) : (ro2 d b).val = 34 + 4 * d.val + b.val := by revert d b; decide
theorem kS_val (s : Fin 4) : (kS s).val = 2 + s.val := by revert s; decide
theorem vS_val (s : Fin 4) : (vS s).val = 6 + s.val := by revert s; decide

section Sched
variable (c : Dev nD)

theorem duties_bar : (rd (F := F) m).duties (barCell c) 0 = Finset.univ := by
  dsimp only [rd]; rw [if_pos (And.intro rfl rfl), if_pos rfl]
theorem duties_dma (q : DmaSem sig) (hq : 10 ≤ q.val) : (rd (F := F) m).duties (dmaCell c q) 0 = {false} := by
  dsimp only [rd]; rw [if_pos (And.intro rfl rfl), if_pos hq]
theorem duties_later (g : GSem nD τ sig) : ∀ r, 1 ≤ r → (rd (F := F) m).duties g r = ∅ :=
  fun r hr => by dsimp only [rd]; rw [if_neg fun h => by omega]
theorem expect_bar : (rd (F := F) m).expect (barCell c) 0 = 2 := by
  unfold Schedule.expect Schedule.amountOf
  rw [duties_bar, Finset.sum_congr rfl fun d _ => show (rd (F := F) m).amount (barCell c) 0 d = 1 from rfl, Finset.sum_const, Finset.card_univ, Fintype.card_bool, smul_eq_mul]
theorem expect_dma (q : DmaSem sig) (hq : 10 ≤ q.val) : (rd (F := F) m).expect (dmaCell c q) 0 = dmaAmt q.val := by
  unfold Schedule.expect Schedule.amountOf; rw [duties_dma m c q hq, Finset.sum_singleton]; rfl
theorem rest_bar : bigSep ((rd (F := F) m).duties (barCell c) 0 \ ∅) (fun d => (rd (F := F) m).payload (barCell c) 0 d) = iprop(barPay c 1 ∗ barPay c 0) := by
  rw [Finset.sdiff_empty, duties_bar, bigSep_univ_eq_bigSepL [false, true] (by decide) (by decide), bigSepL_cons_cons, bigSepL_singleton]; rfl
theorem rest_dma (q : DmaSem sig) (hq : 10 ≤ q.val) :
    bigSep ((rd (F := F) m).duties (dmaCell c q) 0 \ ∅) (fun d => (rd (F := F) m).payload (dmaCell c q) 0 d) = dmaPay m c q.val := by
  rw [Finset.sdiff_empty, duties_dma m c q hq, bigSep_singleton]; rfl

theorem ge_so1 (d b) : 10 ≤ (so1 d b).val := by rw [so1_val]; omega
theorem ge_ro1 (d b) : 10 ≤ (ro1 d b).val := by rw [ro1_val]; omega
theorem ge_so2 (d b) : 10 ≤ (so2 d b).val := by rw [so2_val]; omega
theorem ge_ro2 (d b) : 10 ≤ (ro2 d b).val := by rw [ro2_val]; omega

theorem dirOf_at (k : ℕ) (d : Fin 2) (b : Fin 4) : dirOf (10 + 8 * k + 4 * d.val + b.val) = d := Fin.ext (by show (10 + 8 * k + 4 * d.val + b.val - 10) / 4 % 2 = d.val; omega)
theorem batOf_at (k : ℕ) (d : Fin 2) (b : Fin 4) : batOf (10 + 8 * k + 4 * d.val + b.val) = b := Fin.ext (by show (10 + 8 * k + 4 * d.val + b.val - 10) % 4 = b.val; omega)

theorem pay_so1 (d b) : dmaPay (F := F) m c (so1 d b).val = leftA c d b := by
  rw [so1_val, show 10 + 4 * d.val + b.val = 10 + 8 * 0 + 4 * d.val + b.val by omega]; unfold dmaPay
  rw [dirOf_at, batOf_at, if_neg (by omega), if_pos (by omega)]
theorem pay_ro1 (d b) : dmaPay (F := F) m c (ro1 d b).val = gotA m c d b := by
  rw [ro1_val, show 18 + 4 * d.val + b.val = 10 + 8 * 1 + 4 * d.val + b.val by omega]; unfold dmaPay
  rw [dirOf_at, batOf_at, if_neg (by omega), if_neg (by omega), if_pos (by omega)]
theorem pay_so2 (d b) : dmaPay (F := F) m c (so2 d b).val = leftB c d b := by
  rw [so2_val, show 26 + 4 * d.val + b.val = 10 + 8 * 2 + 4 * d.val + b.val by omega]; unfold dmaPay
  rw [dirOf_at, batOf_at, if_neg (by omega), if_neg (by omega), if_neg (by omega), if_pos (by omega)]
theorem pay_ro2 (d b) : dmaPay (F := F) m c (ro2 d b).val = gotB m c d b := by
  rw [ro2_val, show 34 + 4 * d.val + b.val = 10 + 8 * 3 + 4 * d.val + b.val by omega]; unfold dmaPay
  rw [dirOf_at, batOf_at, if_neg (by omega), if_neg (by omega), if_neg (by omega), if_neg (by omega)]
theorem amt_so1 (d b) : dmaAmt (so1 d b).val = nAll := by rw [so1_val]; unfold dmaAmt; rw [if_pos (by omega)]
theorem amt_ro1 (d b) : dmaAmt (ro1 d b).val = nAll := by rw [ro1_val]; unfold dmaAmt; rw [if_pos (by omega)]
theorem amt_so2 (d b) : dmaAmt (so2 d b).val = nB d := by
  rw [so2_val, show 26 + 4 * d.val + b.val = 10 + 8 * 2 + 4 * d.val + b.val by omega]; unfold dmaAmt; rw [if_neg (by omega), dirOf_at]
theorem amt_ro2 (d b) : dmaAmt (ro2 d b).val = nB d := by
  rw [ro2_val, show 34 + 4 * d.val + b.val = 10 + 8 * 3 + 4 * d.val + b.val by omega]; unfold dmaAmt; rw [if_neg (by omega), dirOf_at]

end Sched

/-! ## What a device owes; the levels -/

/-- One due: a cell of some device and an amount. -/
abbrev Due : Type := (Dev nD × SemLoc sig) × ℕ
def owe : List Due → CellTallies nD τ sig Unit
  | [] => 0
  | x :: l => owe l + tallyAt ((x.1.1 : Thread nD τ), x.1.2) () x.2

abbrev dueBar (n : Dev nD) : Due := ((n, .reg barS), 1)
abbrev dueA (c : Dev nD) (d : Fin 2) (b : Fin 4) : Due := ((tow d c, .dma (ro1 d b)), nAll)
abbrev dueB (c : Dev nD) (d : Fin 2) (b : Fin 4) : Due := ((tow d c, .dma (ro2 d b)), nB d)

/-- The dues of device `c`, in the order the body pays them. -/
abbrev dues (c : Dev nD) : List Due :=
  [dueBar (prv c), dueBar (nxt c), dueA c 0 0, dueA c 1 0, dueA c 0 1, dueA c 1 1, dueB c 0 0, dueB c 1 0, dueA c 0 2, dueA c 1 2,
   dueB c 0 1, dueB c 1 1, dueA c 0 3, dueA c 1 3, dueB c 0 2, dueB c 1 2, dueB c 0 3, dueB c 1 3]
def O₀ (c : Dev nD) : CellTallies nD τ sig Unit := owe (dues c)

def L (g : GSem nD τ sig) : Finset Unit := if g.1.2 = .tc then {()} else ∅
/-- The barrier first; then, batch by batch, the first copies' arrivals and the second's; everything else at 0. -/
def lvS : SemLoc sig → ℕ
  | .reg s => if s = barS then 1 else 0
  | .dma q => if q.val < 18 then 0 else if q.val < 26 then 2 + 2 * ((q.val - 18) % 4) else if q.val < 34 then 0 else 5 + 2 * ((q.val - 34) % 4)
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List Due} {g : GSem nD τ sig} {u : Unit} (h : 0 < owe l g u) :
    ∃ x ∈ l, g = ((x.1.1 : Thread nD τ), x.1.2) := by
  induction l with
  | nil => exact absurd h (Nat.lt_irrefl 0)
  | cons x l ih =>
    unfold owe at h
    rw [Pi.add_apply, Finsupp.add_apply, tallyAt_apply] at h
    by_cases hg : g = ((x.1.1 : Thread nD τ), x.1.2) ∧ u = ()
    · exact ⟨x, List.mem_cons_self, hg.1⟩
    · rw [if_neg hg] at h
      obtain ⟨y, hy, e⟩ := ih h
      exact ⟨y, List.mem_cons_of_mem _ hy, e⟩

/-- A device that owes `l` may wait on a cell below all of them. -/
theorem mayWait_owe (c : Dev nD) (sm : SemLoc sig) (l : List Due) (h : ∀ x ∈ l, lvS sm < lvS x.1.2) :
    (levAts L lv : sProp 𝕄) ⊢ MayWait (c : Thread nD τ) sm () (owe l) :=
  MayOwe.of_cut (L := L) (lev := lv) (lvS sm) (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp]; exact le_refl _)
    (fun g u hg => by obtain ⟨x, hx, rfl⟩ := owe_pos hg; exact h x hx)

/-- What a device still owes. -/
def Ow (c : Dev nD) (l : List Due) : sProp 𝕄 := iprop(∃ W, owes (c : Thread nD τ) (owe l) W)

end Cert.KernelIdeal.Attn

end
-- ==== Proof.KernelIdeal.Moves.lean ====
/-
The steps that communicate: the handshake on the barrier semaphore, the remote copies, the waits. Each is a triple, from
what the device holds before the step to what it holds after; the body's proof runs them one after another.
-/
module

public import proofs.«01_k».proof.Proof.KernelIdeal.Sched

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Running one step after another -/

abbrev 𝒱₀ : Variants := Variants.none

/-- The weakest precondition of a step on device `c`. -/
abbrev wpS (c : Dev nD) (p : Step F) (Q : PUnit → sProp 𝕄) : sProp 𝕄 :=
  wp frame (wpE (defs₀ (F := F)) 𝒱₀ (c : Thread nD τ) none) Set.univ p Q

theorem run {c : Dev nD} {P R : sProp 𝕄} {p : Step F} (h : P ⊢ wpS c p fun _ => R) {k : PUnit → Step F} {Q : PUnit → sProp 𝕄} :
    P ⊢ iprop((R -∗ wpS c (k ⟨⟩) Q) -∗ wpS c (p >>= k) Q) := by
  unfold wpS
  rw [wp_bind]
  refine h.trans ?_
  iintro H Hk
  iapply (wp_wand (M := 𝕄) frame _ Set.univ (p := p) (Q := fun _ => R)) $$ H
  iintro %a HR
  iapply Hk; iexact HR

theorem runLast {c : Dev nD} {P R : sProp 𝕄} {p : Step F} (h : P ⊢ wpS c p fun _ => R) {Q : PUnit → sProp 𝕄} :
    P ⊢ iprop((R -∗ Q ⟨⟩) -∗ wpS c p Q) := by
  unfold wpS
  refine h.trans ?_
  iintro H Hk
  iapply (wp_wand (M := 𝕄) frame _ Set.univ (p := p) (Q := fun _ => R)) $$ H
  iintro %a HR
  iapply Hk; iexact HR

/-! ## The cells' records -/

/-- The cells of the protocol: the barrier semaphore's and the copies'. -/
def csem (k : Fin 33) : SemLoc sig := if k.val = 0 then .reg barS else .dma ⟨k.val + 9, Nat.lt_of_lt_of_le (Nat.add_lt_add_right k.isLt 9) (by decide)⟩
abbrev kcell (ck : Dev nD × Fin 33) : GSem nD τ sig := ((ck.1 : Thread nD τ), csem ck.2)

def kix (q : DmaSem sig) : Fin 33 := ⟨q.val - 9, by have : q.val < 42 := q.isLt; omega⟩
theorem csem_zero : csem 0 = .reg barS := if_pos rfl
theorem csem_kix (q : DmaSem sig) (hq : 10 ≤ q.val) : csem (kix q) = .dma q := by
  unfold csem kix
  rw [if_neg (show ¬ (q.val - 9 = 0) by omega)]
  exact congrArg SemLoc.dma (Fin.ext (show q.val - 9 + 9 = q.val by omega))

/-- Every cell's invariant, and that its first round is open. -/
def records (K : Dev nD × Fin 33 → ℕ) : sProp 𝕄 :=
  iprop((bigSep Finset.univ fun ck : Dev nD × Fin 33 => cellInv ER (rd m) (K ck) (kcell ck))
    ∗ bigSep Finset.univ fun ck : Dev nD × Fin 33 => reached ER (kcell ck) 0)

instance records_persistent (K : Dev nD × Fin 33 → ℕ) : BI.Persistent (records m K) := by unfold records; infer_instance

/-- What every step may use: the records and the order of the waits. -/
def Ctx (K : Dev nD × Fin 33 → ℕ) : sProp 𝕄 := iprop(records m K ∗ levAts L lv)

instance Ctx_persistent (K : Dev nD × Fin 33 → ℕ) : BI.Persistent (Ctx m K) := by unfold Ctx; infer_instance

variable (K : Dev nD × Fin 33 → ℕ)

theorem inv_at (ck : Dev nD × Fin 33) :
    (bigSep Finset.univ fun ck : Dev nD × Fin 33 => (cellInv ER (rd m) (K ck) (kcell ck) : sProp 𝕄)) ⊢ cellInv ER (rd m) (K ck) (kcell ck) :=
  bigSep_elim (Finset.mem_univ ck)
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

theorem inv_cell (c : Dev nD) (k : Fin 33) {sm : SemLoc sig} (h : csem k = sm) : (Ctx m K : sProp 𝕄) ⊢ cellInv ER (rd m) (K (c, k)) ((c : Thread nD τ), sm) := by
  subst h; unfold Ctx records
  iintro ⟨⟨H, -⟩, -⟩
  iapply (inv_at m K (c, k)); iexact H
theorem reached_cell (c : Dev nD) (k : Fin 33) {sm : SemLoc sig} (h : csem k = sm) : (Ctx m K : sProp 𝕄) ⊢ reached ER ((c : Thread nD τ), sm) 0 := by
  subst h; unfold Ctx records
  iintro ⟨⟨-, H⟩, -⟩
  iapply (reached_at (F := F) (c, k)); iexact H
theorem lev_ctx : (Ctx m K : sProp 𝕄) ⊢ levAts L lv := by
  unfold Ctx; iintro ⟨-, H⟩; iexact H

/-! ## Waits -/

/-- A wait on the semaphore of a copy: what the copy hands over, and the semaphore closed at zero. -/
theorem wait_spec (c : Dev nD) (q : DmaSem sig) (hq : 10 ≤ q.val) {sp sp' : Space} {s s' : Shape} {e e' : EltTy}
    {src : Memref sig .tc sp' s' e'} {dst : Memref sig .tc sp s e} {hs : src.view.WordExact} {hd : dst.view.WordExact}
    (N : ℕ) (hN : dst.view.dmaCredit = N) (hA : dmaAmt q.val = N) (l : List Due) (hl : ∀ x ∈ l, lvS (.dma q) < lvS x.1.2) :
    iprop(Ctx m K ∗ atPos ER (dmaCell c q) 0 ∅ 0 ∗ cred (tallyAt (dmaCell c q) () N) ∗ Ow c l)
      ⊢ wpS (F := F) c (Prog.lift (.waitDma2 q src dst hs hd)) fun _ => iprop(dmaPay m c q.val ∗ semVal (dmaCell c q) 0 ∗ Ow c l) := by
  subst hN
  simp only [wpS, Prog.lift]
  iintro ⟨#HC, Hat, Hc, HO⟩
  unfold Ow
  icases HO with ⟨%W, HO⟩
  iapply (Rounds.wp_wait_rest_token 𝒱₀ ER (rd m) (c : Thread nD τ) none (κ := K (c, kix q))
      (wpE_waitDma2_eq 𝒱₀ (c : Thread nD τ) none Set.univ) (Set.mem_univ _) () (O := owe l) (W := W) (R := 0) (m := 0) (T := ∅)
      (by rw [Nat.zero_add, expect_dma m c q hq, hA])) $$ [Hc HO Hat]
  · isplitr; · iapply (inv_cell m K c (kix q) (csem_kix q hq)); iexact HC
    isplitl [Hc]; · iexact Hc
    isplitl [HO]; · iexact HO
    isplitr; · iapply (mayWait_owe c (.dma q) l hl); iapply (lev_ctx m K); iexact HC
    iexact Hat
  iintro ⟨HO, Hat, -, Hpay⟩
  ihave Hp := (Entails.of_eq (rest_dma m c q hq)) $$ Hpay
  imod (Rounds.cell_close ER (rd m) (Set.mem_univ (K (c, kix q))) (fun h => h) (R := 0 + 1) (duties_later m (dmaCell c q))) $$ [Hat] with Hz
  · isplitr; · iapply (inv_cell m K c (kix q) (csem_kix q hq)); iexact HC
    iexact Hat
  rw [wp_ret]; imodintro
  isplitl [Hp]; · iexact Hp
  isplitl [Hz]; · iexact Hz
  iexists _; iexact HO

/-! ## The handshake -/

theorem payload_bar (c : Dev nD) (d : Bool) : (rd (F := F) m).payload (barCell c) 0 d = barPay c (if d then 0 else 1) := rfl
theorem lvS_bar : lvS (.reg barS) = 1 := by unfold lvS; exact if_pos rfl

theorem handshake_spec (c l' r' : Dev nD) (hl' : l' = prv c) (hr' : r' = nxt c) (l : List Due) (hl : ∀ x ∈ l, 1 < lvS x.1.2) :
    iprop(Ctx m K ∗ atPos ER (barCell c) 0 ∅ 0 ∗ cred (tallyAt (barCell c) () 2)
        ∗ dutyTok ER (barCell (prv c)) 0 true ∗ dutyTok ER (barCell (nxt c)) 0 false
        ∗ barPay (prv c) 0 ∗ barPay (nxt c) 1 ∗ Ow c (dueBar (prv c) :: dueBar (nxt c) :: l))
      ⊢ wpS (F := F) c (handshake l' r') fun _ => iprop(barPay c 0 ∗ barPay c 1 ∗ semVal (barCell c) 0 ∗ Ow c l) := by
  subst hl' hr'
  unfold handshake
  simp only [wpS, semSignalWord, semWaitWord, Prog.lift, Prog.bind_op, Prog.bind_ret, Prog.pure_eq_ret]
  iintro ⟨#HC, Hat, Hc, HtP, HtN, HpP, HpN, HO⟩
  unfold Ow
  icases HO with ⟨%W, HO⟩
  iapply (Rounds.wp_signal 𝒱₀ ER (rd m) (c : Thread nD τ) none (dst := (prv c : Thread nD τ)) (κ := K (prv c, 0))
      (d := true) (by rw [duties_bar]; exact Finset.mem_univ _) (show (1 : ℕ) = _ by decide) () (owe (dueBar (nxt c) :: l)) rfl)
    $$ [HO HtP HpP]
  · isplitr; · iapply (inv_cell m K (prv c) 0 csem_zero); iexact HC
    isplitl [HO]; · iexact HO
    isplitl [HtP]; · iexact HtP
    isplitl [HpP]; · rw [payload_bar, if_pos rfl]; iexact HpP
    iapply (reached_cell m K (prv c) 0 csem_zero); iexact HC
  iintro HO
  iapply (Rounds.wp_signal 𝒱₀ ER (rd m) (c : Thread nD τ) none (dst := (nxt c : Thread nD τ)) (κ := K (nxt c, 0))
      (d := false) (by rw [duties_bar]; exact Finset.mem_univ _) (show (1 : ℕ) = _ by decide) () (owe l) rfl)
    $$ [HO HtN HpN]
  · isplitr; · iapply (inv_cell m K (nxt c) 0 csem_zero); iexact HC
    isplitl [HO]; · iexact HO
    isplitl [HtN]; · iexact HtN
    isplitl [HpN]; · rw [payload_bar, if_neg Bool.false_ne_true]; iexact HpN
    iapply (reached_cell m K (nxt c) 0 csem_zero); iexact HC
  iintro HO
  iapply (Rounds.wp_wait_rest_token 𝒱₀ ER (rd m) (c : Thread nD τ) none (κ := K (c, 0))
      (wpE_semWait_eq 𝒱₀ (c : Thread nD τ) none Set.univ) (Set.mem_univ _) () (O := owe l) (W := W) (R := 0) (m := 0) (T := ∅)
      (by rw [expect_bar]; decide)) $$ [Hc HO Hat]
  · isplitr; · iapply (inv_cell m K c 0 csem_zero); iexact HC
    isplitl [Hc]; · iexact Hc
    isplitl [HO]; · iexact HO
    isplitr
    · iapply (mayWait_owe c (.reg barS) l (fun x hx => by rw [lvS_bar]; exact hl x hx))
      iapply (lev_ctx m K); iexact HC
    iexact Hat
  iintro ⟨HO, Hat, -, Hpay⟩
  ihave Hp := (Entails.of_eq (rest_bar m c)) $$ Hpay
  icases Hp with ⟨H1, H0⟩
  imod (Rounds.cell_close ER (rd m) (Set.mem_univ (K (c, 0))) (fun h => h) (R := 0 + 1) (duties_later m (barCell c))) $$ [Hat] with Hz
  · isplitr; · iapply (inv_cell m K c 0 csem_zero); iexact HC
    iexact Hat
  rw [wp_ret]; imodintro
  isplitl [H0]; · iexact H0
  isplitl [H1]; · iexact H1
  isplitl [Hz]; · iexact Hz
  iexists _; iexact HO

/-! ## The remote copies -/

theorem oPts_all (c : Dev nD) (j b : Fin 4) (q : PosShare TreeShare) (f : OBuf F) :
    (oPts c (regA j b) q f : sProp 𝕄) = ((allM j b).view.loc (c : Thread nD τ) ↦[(allM j b).view.set]{q} f) := by
  unfold oPts; rw [← set_all]
theorem oPts_lo (c : Dev nD) (j b : Fin 4) (q : PosShare TreeShare) (f : OBuf F) :
    (oPts c (regLo j b) q f : sProp 𝕄) = ((loM j b).view.loc (c : Thread nD τ) ↦[(loM j b).view.set]{q} f) := by
  unfold oPts; rw [← set_lo]
theorem oPts_hi (c : Dev nD) (j b : Fin 4) (q : PosShare TreeShare) (f : OBuf F) :
    (oPts c (regHi j b) q f : sProp 𝕄) = ((hiM j b).view.loc (c : Thread nD τ) ↦[(hiM j b).view.set]{q} f) := by
  unfold oPts; rw [← set_hi]

theorem credit_all (j b : Fin 4) : (allM j b).view.dmaCredit = nAll := by unfold nAll View.dmaCredit; rfl
theorem credit_lo (j b : Fin 4) : (loM j b).view.dmaCredit = nLo := by unfold nLo View.dmaCredit; rfl
theorem credit_hi (j b : Fin 4) : (hiM j b).view.dmaCredit = nHi := by unfold nHi View.dmaCredit; rfl

/-- The place a first copy in direction `d` fills. -/
abbrev dst1 (d : Fin 2) : Fin 4 := if d = 0 then 1 else 2

theorem zoneA_eq (c : Dev nD) (d : Fin 2) (b : Fin 4) : (zoneA c d b : sProp 𝕄) = oAny (tow d c) (regA (dst1 d) b) fullShare := by
  unfold zoneA tow dst1; split <;> rfl
theorem gotA_eq (c : Dev nD) (d : Fin 2) (b : Fin 4) :
    (gotA m (tow d c) d b : sProp 𝕄) = oGood (tow d c) (dst1 d) b (partOf m c b) anyRow (regA (dst1 d) b) fullShare := by
  unfold gotA tow dst1
  by_cases h : d = 0
  · simp only [if_pos h, prv_nxt]
  · simp only [if_neg h, nxt_prv]

/-- The tokens of a copy's two duties: its send semaphore's and the receiver's. -/
def tokA (c : Dev nD) (d : Fin 2) (b : Fin 4) : sProp 𝕄 :=
  iprop(dutyTok ER (dmaCell c (so1 d b)) 0 false ∗ dutyTok ER (dmaCell (tow d c) (ro1 d b)) 0 false)
def tokB (c : Dev nD) (d : Fin 2) (b : Fin 4) : sProp 𝕄 :=
  iprop(dutyTok ER (dmaCell c (so2 d b)) 0 false ∗ dutyTok ER (dmaCell (tow d c) (ro2 d b)) 0 false)

theorem duty_mem (c : Dev nD) (q : DmaSem sig) (hq : 10 ≤ q.val) : false ∈ (rd (F := F) m).duties (dmaCell c q) 0 := by
  rw [duties_dma m c q hq]; exact Finset.mem_singleton_self _

theorem amount_dma (c : Dev nD) (q : DmaSem sig) (d : Bool) : (rd (F := F) m).amount (dmaCell c q) 0 d = dmaAmt q.val := rfl
theorem payload_dma (c : Dev nD) (q : DmaSem sig) (d : Bool) : (rd (F := F) m).payload (dmaCell c q) 0 d = dmaPay m c q.val := rfl

/-- A first copy: the local results lent, the neighbour's zone filled with them. -/
theorem hop1_spec (c n : Dev nD) (d : Fin 2) (b j : Fin 4) (hn : n = tow d c) (hj : j = dst1 d) (f : OBuf F) (hf : Good 0 b (partOf m c b) anyRow f) (l : List Due) :
    iprop(Ctx m K ∗ tokA c d b ∗ zoneA c d b ∗ oPts c (regA 0 b) (qSend d) f ∗ Ow c (dueA c d b :: l))
      ⊢ wpS (F := F) c (hop1 d j b n) fun _ => iprop(cred (tallyAt (dmaCell c (so1 d b)) () nAll) ∗ Ow c l) := by
  subst hn hj
  unfold hop1
  simp only [wpS, Prog.lift]
  rw [zoneA_eq]
  unfold tokA oAny Ow
  iintro ⟨#HC, ⟨Ht1, Ht2⟩, ⟨%g, Hd⟩, Hs, ⟨%W, HO⟩⟩
  ihave Hs := (Entails.of_eq (oPts_all _ _ _ _ _)) $$ Hs
  ihave Hd := (Entails.of_eq (oPts_all _ _ _ _ _)) $$ Hd
  iapply (Rounds.wp_send_pointsTo 𝒱₀ ER (rd m) (c : Thread nD τ) none (κ₁ := K (c, kix (so1 d b))) (κ₂ := K (tow d c, kix (ro1 d b)))
    (r₁ := 0) (r₂ := 0) (d₁ := false) (d₂ := false) (fs := f) (fd := g)
    (duty_mem m c _ (ge_so1 d b)) (duty_mem m (tow d c) _ (ge_ro1 d b))
    () () nAll (credit_all _ _) ((amount_dma m _ _ _).trans (amt_so1 d b)) ((amount_dma m _ _ _).trans (amt_ro1 d b)) (owe l) rfl (W := W)
    (by
      rw [payload_dma, pay_so1]; unfold leftA oAny
      iintro H; iexists f; rw [oPts_all]; iexact H)
    (by
      rw [payload_dma, pay_ro1, gotA_eq]; unfold oGood
      iintro H; iexists _
      isplitr
      rotate_left
      · rw [oPts_all]; iexact H
      · ipureintro
        intro r q e hr hd
        rw [moved_all]; exact hf r q e hr hd)) $$ [Ht1 Ht2 Hd Hs HO]
  · isplitr; · iapply (inv_cell m K c _ (csem_kix _ (ge_so1 d b))); iexact HC
    isplitr; · iapply (inv_cell m K (tow d c) _ (csem_kix _ (ge_ro1 d b))); iexact HC
    isplitl [Hs]; · iexact Hs
    isplitl [Hd]; · iexact Hd
    isplitl [HO]; · iexact HO
    isplitl [Ht1]; · iexact Ht1
    isplitr; · iapply (reached_cell m K c _ (csem_kix _ (ge_so1 d b))); iexact HC
    isplitl [Ht2]; · iexact Ht2
    iapply (reached_cell m K (tow d c) _ (csem_kix _ (ge_ro1 d b))); iexact HC
  iintro ⟨Hc, HO⟩
  rw [wp_ret]; imodintro
  isplitl [Hc]; · iexact Hc
  iexists W; iexact HO

/-- The second copies: what came from the left passed on to the right, its first four rows; -/
theorem hop2r_spec (c n : Dev nD) (b : Fin 4) (hn : n = nxt c) (f : OBuf F) (hf : Good 1 b (partOf m (prv c) b) anyRow f) (l : List Due) :
    iprop(Ctx m K ∗ tokB c 0 b ∗ zoneB c 0 b ∗ oPts c (regLo 1 b) qL0 f ∗ Ow c (dueB c 0 b :: l))
      ⊢ wpS (F := F) c (hop2r b n) fun _ => iprop(cred (tallyAt (dmaCell c (so2 0 b)) () nLo) ∗ Ow c l) := by
  subst hn
  unfold hop2r
  simp only [wpS, Prog.lift]
  unfold tokB zoneB oAny Ow
  rw [if_pos rfl]
  iintro ⟨#HC, ⟨Ht1, Ht2⟩, ⟨%g, Hd⟩, Hs, ⟨%W, HO⟩⟩
  ihave Hs := (Entails.of_eq (oPts_lo _ _ _ _ _)) $$ Hs
  ihave Hd := (Entails.of_eq (oPts_lo _ _ _ _ _)) $$ Hd
  iapply (Rounds.wp_send_pointsTo 𝒱₀ ER (rd m) (c : Thread nD τ) none (κ₁ := K (c, kix (so2 0 b))) (κ₂ := K (nxt c, kix (ro2 0 b)))
    (r₁ := 0) (r₂ := 0) (d₁ := false) (d₂ := false) (fs := f) (fd := g)
    (duty_mem m c _ (ge_so2 0 b)) (duty_mem m (nxt c) _ (ge_ro2 0 b))
    () () nLo (credit_lo _ _) ((amount_dma m _ _ _).trans (amt_so2 0 b)) ((amount_dma m _ _ _).trans (amt_ro2 0 b)) (owe l) rfl (W := W)
    (by
      rw [payload_dma, pay_so2]; unfold leftB oAny; rw [if_pos rfl]
      iintro H; iexists f; rw [oPts_lo]; iexact H)
    (by
      rw [payload_dma, pay_ro2]; unfold gotB oGood; rw [if_pos rfl, prv_nxt]
      iintro H; iexists _
      isplitr
      rotate_left
      · rw [oPts_lo]; iexact H
      · ipureintro
        intro r q e hr hd
        rw [moved_lo _ _ _ _ _ _ hr]; exact hf r q e trivial hd)) $$ [Ht1 Ht2 Hd Hs HO]
  · isplitr; · iapply (inv_cell m K c _ (csem_kix _ (ge_so2 0 b))); iexact HC
    isplitr; · iapply (inv_cell m K (nxt c) _ (csem_kix _ (ge_ro2 0 b))); iexact HC
    isplitl [Hs]; · iexact Hs
    isplitl [Hd]; · iexact Hd
    isplitl [HO]; · iexact HO
    isplitl [Ht1]; · iexact Ht1
    isplitr; · iapply (reached_cell m K c _ (csem_kix _ (ge_so2 0 b))); iexact HC
    isplitl [Ht2]; · iexact Ht2
    iapply (reached_cell m K (nxt c) _ (csem_kix _ (ge_ro2 0 b))); iexact HC
  iintro ⟨Hc, HO⟩
  rw [wp_ret]; imodintro
  isplitl [Hc]; · iexact Hc
  iexists W; iexact HO

/-- what came from the right passed on to the left, its last five. -/
theorem hop2l_spec (c n : Dev nD) (b : Fin 4) (hn : n = prv c) (f : OBuf F) (hf : Good 2 b (partOf m (nxt c) b) anyRow f) (l : List Due) :
    iprop(Ctx m K ∗ tokB c 1 b ∗ zoneB c 1 b ∗ oPts c (regHi 2 b) qL0 f ∗ Ow c (dueB c 1 b :: l))
      ⊢ wpS (F := F) c (hop2l b n) fun _ => iprop(cred (tallyAt (dmaCell c (so2 1 b)) () nHi) ∗ Ow c l) := by
  subst hn
  unfold hop2l
  simp only [wpS, Prog.lift]
  unfold tokB zoneB oAny Ow
  rw [if_neg (by decide)]
  iintro ⟨#HC, ⟨Ht1, Ht2⟩, ⟨%g, Hd⟩, Hs, ⟨%W, HO⟩⟩
  ihave Hs := (Entails.of_eq (oPts_hi _ _ _ _ _)) $$ Hs
  ihave Hd := (Entails.of_eq (oPts_hi _ _ _ _ _)) $$ Hd
  iapply (Rounds.wp_send_pointsTo 𝒱₀ ER (rd m) (c : Thread nD τ) none (κ₁ := K (c, kix (so2 1 b))) (κ₂ := K (prv c, kix (ro2 1 b)))
    (r₁ := 0) (r₂ := 0) (d₁ := false) (d₂ := false) (fs := f) (fd := g)
    (duty_mem m c _ (ge_so2 1 b)) (duty_mem m (prv c) _ (ge_ro2 1 b))
    () () nHi (credit_hi _ _) ((amount_dma m _ _ _).trans (amt_so2 1 b)) ((amount_dma m _ _ _).trans (amt_ro2 1 b)) (owe l) rfl (W := W)
    (by
      rw [payload_dma, pay_so2]; unfold leftB oAny; rw [if_neg (by decide)]
      iintro H; iexists f; rw [oPts_hi]; iexact H)
    (by
      rw [payload_dma, pay_ro2]; unfold gotB oGood; rw [if_neg (by decide), ← nxt_nxt, nxt_prv]
      iintro H; iexists _
      isplitr
      rotate_left
      · rw [oPts_hi]; iexact H
      · ipureintro
        intro r q e hr hd
        rw [moved_hi _ _ _ _ _ _ hr]; exact hf r q e trivial hd)) $$ [Ht1 Ht2 Hd Hs HO]
  · isplitr; · iapply (inv_cell m K c _ (csem_kix _ (ge_so2 1 b))); iexact HC
    isplitr; · iapply (inv_cell m K (prv c) _ (csem_kix _ (ge_ro2 1 b))); iexact HC
    isplitl [Hs]; · iexact Hs
    isplitl [Hd]; · iexact Hd
    isplitl [HO]; · iexact HO
    isplitl [Ht1]; · iexact Ht1
    isplitr; · iapply (reached_cell m K c _ (csem_kix _ (ge_so2 1 b))); iexact HC
    isplitl [Ht2]; · iexact Ht2
    iapply (reached_cell m K (prv c) _ (csem_kix _ (ge_ro2 1 b))); iexact HC
  iintro ⟨Hc, HO⟩
  rw [wp_ret]; imodintro
  isplitl [Hc]; · iexact Hc
  iexists W; iexact HO

end Cert.KernelIdeal.Attn

end
-- ==== Proof.KernelIdeal.Heads.lean ====
/-
The local part of the body: the rings of fetched heads, and one head's attention into place 0.
-/
module

public import proofs.«01_k».proof.Proof.KernelIdeal.Moves

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 33 → ℕ)

/-! ## One fetch, for keys and values alike -/

section One

variable (A : Memref sig .tc .hbm S4x4096x8x128 .f32) (B : Memref sig .tc .vmem S4x4096x128 .f32) (X : DmaSem sig)
  (c : Dev nD) (q : PosShare TreeShare) (KV : Buf (Elt F) (A.view.loc (c : Thread nD τ))) (b : Fin 4) (h : Fin 8) (s : Fin 4)

/-- Slot `s` of the ring at some contents, at contents `f`. -/
def slotPts (f : Buf (Elt F) (B.view.loc (c : Thread nD τ))) : sProp 𝕄 := B.view.loc (c : Thread nD τ) ↦[(slotM B s).view.set]{fullShare} f
/-- What the fetch of a head leaves in the slot. -/
def fetchedTo (f : Buf (Elt F) (B.view.loc (c : Thread nD τ))) : Buf (Elt F) (B.view.loc (c : Thread nD τ)) :=
  (slotM B s).view.write (Elt F) f ((headM A b h).view.read (Elt F) KV) Finset.univ

/-- The slot free, its semaphore at zero, a share of the source; -/
def Idle1 : sProp 𝕄 := iprop((∃ f, slotPts B c s f) ∗ semVal ((c : Thread nD τ), .dma X) 0 ∗ (A.view.loc (c : Thread nD τ) ↦{q} KV))
/-- the fetch in flight; -/
def Fly1 : sProp 𝕄 :=
  iprop(∃ f, Transfers.Flight EC (c : Thread nD τ) (.dma X) () (slotM B s).view.dmaCredit
        iprop(slotPts B c s (fetchedTo A B c KV b h s f) ∗ ((headM A b h).view.loc (c : Thread nD τ) ↦[(headM A b h).view.set]{q} KV))
      ∗ (A.view.loc (c : Thread nD τ) ↦[Finset.univ \ (headM A b h).view.set]{q} KV))
/-- the head there. -/
def Here1 : sProp 𝕄 := iprop((∃ f, slotPts B c s (fetchedTo A B c KV b h s f)) ∗ semVal ((c : Thread nD τ), .dma X) 0 ∗ (A.view.loc (c : Thread nD τ) ↦{q} KV))

theorem here_idle : Here1 A B X c q KV b h s ⊢ Idle1 A B X c q KV s := by
  unfold Here1 Idle1
  iintro ⟨⟨%f, H⟩, H2⟩
  isplitl [H]; · iexists _; iexact H
  iexact H2

theorem src_split : (A.view.loc (c : Thread nD τ) ↦{q} KV : sProp 𝕄)
    ⊣⊢ iprop(((headM A b h).view.loc (c : Thread nD τ) ↦[(headM A b h).view.set]{q} KV) ∗ (A.view.loc (c : Thread nD τ) ↦[Finset.univ \ (headM A b h).view.set]{q} KV)) :=
  pointsTo_split_subset (Finset.subset_univ (headM A b h).view.set)

theorem fetch1_spec : Idle1 A B X c q KV s ⊢ wpS c (fetch1 A B X b h s) fun _ => Fly1 A B X c q KV b h s := by
  unfold Idle1 fetch1
  simp only [wpS, Prog.lift]
  iintro ⟨⟨%f, Hd⟩, Hv, Hs⟩
  ihave Hs := (src_split A c q KV b h).1 $$ Hs
  icases Hs with ⟨Hs, Hr⟩
  unfold slotPts
  iapply (Transfers.wp_dmaLocal EC 𝒱₀ (c : Thread nD τ) none () (slotM B s).view.dmaCredit rfl (View.dmaCredit_pos _ (by decide)) (Finset.Subset.refl _)) $$ [Hs Hd Hv]
  · isplitl [Hs]; · iexact Hs
    isplitl [Hd]; · iexact Hd
    iexact Hv
  iintro HF
  rw [wp_ret]; imodintro
  unfold Fly1
  iexists f
  isplitl [HF]
  · unfold slotPts fetchedTo; iexact HF
  iexact Hr

theorem await1_spec (hX : X.val < 18) (l : List Due) (hl : ∀ x ∈ l, 0 < lvS x.1.2) :
    iprop(Ctx m K ∗ Fly1 A B X c q KV b h s ∗ Ow c l) ⊢ wpS c (await1 A B X b h s) fun _ => iprop(Here1 A B X c q KV b h s ∗ Ow c l) := by
  unfold Fly1 await1 Ow
  simp only [wpS, Prog.lift]
  iintro ⟨#HC, ⟨%f, HF, Hr⟩, ⟨%W, HO⟩⟩
  iapply (Transfers.wp_waitLocalO EC 𝒱₀ (c : Thread nD τ) none () (O := owe l) (W := W) (N := (slotM B s).view.dmaCredit) rfl) $$ [HF HO]
  · isplitl [HF]; · iexact HF
    isplitl [HO]; · iexact HO
    iapply (mayWait_owe c (.dma X) l (fun x hx => by
      have e : lvS (.dma X) = 0 := by unfold lvS; exact if_pos hX
      rw [e]; exact hl x hx))
    iapply (lev_ctx m K); iexact HC
  iintro ⟨⟨Hd, Hs⟩, Hv, HO⟩
  rw [wp_ret]; imodintro
  unfold Here1
  isplitr [HO]
  · isplitl [Hd]; · iexists f; iexact Hd
    isplitl [Hv]; · iexact Hv
    iapply (src_split A c q KV b h).2
    isplitl [Hs] <;> iassumption
  iexists _; iexact HO

end One

/-! ## The two rings -/

/-- The shares of the keys and values the four slots' fetches read under. -/
def qs (s : Fin 4) : PosShare TreeShare :=
  if s.val < 2 then (if s.val = 0 then fullShare.left.left else fullShare.left.right)
  else (if s.val = 2 then fullShare.right.left else fullShare.right.right)

def Idle (c : Dev nD) (s : Fin 4) : sProp 𝕄 := iprop(Idle1 kM kbM (kS s) c (qs s) (xk m c) s ∗ Idle1 vM vbM (vS s) c (qs s) (xv m c) s)
def Fly (c : Dev nD) (i : ℕ) : sProp 𝕄 :=
  iprop(Fly1 kM kbM (kS (sOf i)) c (qs (sOf i)) (xk m c) (bOf i) (hOf i) (sOf i) ∗ Fly1 vM vbM (vS (sOf i)) c (qs (sOf i)) (xv m c) (bOf i) (hOf i) (sOf i))
def Here (c : Dev nD) (i : ℕ) : sProp 𝕄 :=
  iprop(Here1 kM kbM (kS (sOf i)) c (qs (sOf i)) (xk m c) (bOf i) (hOf i) (sOf i) ∗ Here1 vM vbM (vS (sOf i)) c (qs (sOf i)) (xv m c) (bOf i) (hOf i) (sOf i))

theorem fetch_spec (c : Dev nD) (i : ℕ) : Idle m c (sOf i) ⊢ wpS c (fetch i) fun _ => Fly m c i := by
  unfold Idle Fly fetch
  iintro ⟨H1, H2⟩
  iapply (run (fetch1_spec kM kbM (kS (sOf i)) c (qs (sOf i)) (xk m c) (bOf i) (hOf i) (sOf i))) $$ H1
  iintro H1
  iapply (runLast (fetch1_spec vM vbM (vS (sOf i)) c (qs (sOf i)) (xv m c) (bOf i) (hOf i) (sOf i))) $$ H2
  iintro H2
  isplitl [H1] <;> iassumption

theorem kS_lt (s : Fin 4) : (kS s).val < 18 := by rw [kS_val]; omega
theorem vS_lt (s : Fin 4) : (vS s).val < 18 := by rw [vS_val]; omega

theorem await_spec (c : Dev nD) (i : ℕ) (l : List Due) (hl : ∀ x ∈ l, 0 < lvS x.1.2) :
    iprop(Ctx m K ∗ Fly m c i ∗ Ow c l) ⊢ wpS c (await i) fun _ => iprop(Here m c i ∗ Ow c l) := by
  unfold Here Fly await
  iintro ⟨#HC, ⟨H1, H2⟩, HO⟩
  iapply (run (await1_spec m K kM kbM (kS (sOf i)) c (qs (sOf i)) (xk m c) (bOf i) (hOf i) (sOf i) (kS_lt _) l hl)) $$ [H1 HO]
  · isplitr; · iexact HC
    isplitl [H1] <;> iassumption
  iintro ⟨H1, HO⟩
  iapply (runLast (await1_spec m K vM vbM (vS (sOf i)) c (qs (sOf i)) (xv m c) (bOf i) (hOf i) (sOf i) (vS_lt _) l hl)) $$ [H2 HO]
  · isplitr; · iexact HC
    isplitl [H2] <;> iassumption
  iintro ⟨H2, HO⟩
  isplitr [HO]
  · isplitl [H1] <;> iassumption
  iexact HO

/-! ## One head -/

/-- The queries, staged. -/
def qPts (c : Dev nD) : sProp 𝕄 := ((c : Thread nD τ).loc cc0_stg0_0) ↦{fullShare} (xq m c : Buf (Elt F) ((c : Thread nD τ).loc cc0_stg0_0))

/-- The first `n` heads of batch `b` done. -/
def Done (c : Dev nD) (b : Fin 4) (n : ℕ) (f : OBuf F) : Prop :=
  ∀ r q d, (r.val < n ∨ (r = 8 ∧ d.val < 2 * n)) → f (ix5 0 b r q d : OIdx) = partOf m c b r q d
def Mine (c : Dev nD) (b : Fin 4) (n : ℕ) : sProp 𝕄 := iprop(∃ f, ⌜Done m c b n f⌝ ∗ oPts c (regA 0 b) fullShare f)

theorem mine_zero (c : Dev nD) (b : Fin 4) : (oAny c (regA 0 b) fullShare : sProp 𝕄) ⊢ Mine m c b 0 := by
  unfold oAny Mine
  iintro ⟨%f, H⟩
  iexists f
  isplitr
  · ipureintro; intro r q d h; exact absurd h (by omega)
  iexact H
theorem done_good (c : Dev nD) (b : Fin 4) (f : OBuf F) (hf : Done m c b 8 f) : Good 0 b (partOf m c b) anyRow f := by
  intro r q d _ h
  refine hf r q d ?_
  by_cases h8 : r.val < 8
  · exact .inl h8
  · exact .inr ⟨Fin.ext (by have := r.isLt; show r.val = 8; omega), by omega⟩

theorem cast_row (w : FVec F S32x128 .f32) (q : Fin 32) (d : Fin 128) :
    shapeCast S1x1x1x32x128 w shapeCasts_S32x128_S1x1x1x32x128 (ix5 (0 : Fin 1) (0 : Fin 1) (0 : Fin 1) q d) = w (ix2 q d) :=
  shapeCast_apply w _ _ _ (by
    rw [Shape.rowMajor_val_two, Shape.rowMajor_val_five]
    show q.val * 128 + d.val = ((((0 * 1 + 0) * 1 + 0) * 32 + q.val) * 128 + d.val)
    omega)
theorem cast_col (w : FVec F S32x1 .f32) (q : Fin 32) :
    shapeCast S1x1x1x32x1 w shapeCasts_S32x1_S1x1x1x32x1 (ix5 (0 : Fin 1) (0 : Fin 1) (0 : Fin 1) q (0 : Fin 1)) = w (ix2 q (0 : Fin 1)) :=
  shapeCast_apply w _ _ _ (by
    rw [Shape.rowMajor_val_two, Shape.rowMajor_val_five]
    show q.val * 1 + 0 = ((((0 * 1 + 0) * 1 + 0) * 32 + q.val) * 1 + 0)
    omega)

/-- The three stores of head `h` add it to the heads done. -/
theorem done_succ (c : Dev nD) (b : Fin 4) (h : Fin 8) (f : OBuf F) (hf : Done m c b h.val f) :
    Done m c b (h.val + 1)
      ((oM.access (colR 0 b (lCol h))).write (Elt F)
        ((oM.access (colR 0 b (mCol h))).write (Elt F)
          ((oM.access (oR 0 b (oRow h))).write (Elt F) f
            (shapeCast S1x1x1x32x128 (weighed (qOf (xq m c) b h) (headOf (xk m c) b h) (headOf (xv m c) b h)) shapeCasts_S32x128_S1x1x1x32x128) Finset.univ)
          (shapeCast S1x1x1x32x1 (rowMax (qOf (xq m c) b h) (headOf (xk m c) b h)) shapeCasts_S32x1_S1x1x1x32x1) Finset.univ)
        (shapeCast S1x1x1x32x1 (rowSum (qOf (xq m c) b h) (headOf (xk m c) b h)) shapeCasts_S32x1_S1x1x1x32x1) Finset.univ) := by
  intro r q d hr
  have hh := h.isLt
  by_cases hr8 : r = 8
  · subst hr8
    have hd : d.val < 2 * (h.val + 1) := by
      rcases hr with hr | hr
      · exact absurd hr (by show ¬ (8 < _); omega)
      · exact hr.2
    have e8 : ¬ (8 : Fin 9).val < 8 := by decide
    by_cases h1 : d.val = 2 * h.val + 1
    · have ed : d = ⟨(lCol h).val, col128 _⟩ := Fin.ext h1
      rw [ed, store_col, cast_col]
      unfold partOf part
      rw [dif_neg e8, if_neg (by show ¬ (2 * h.val + 1) % 2 = 0; omega), show colHead ⟨(lCol h).val, col128 _⟩ = h from Fin.ext (by show (2 * h.val + 1) / 2 % 8 = h.val; omega)]
    · rw [store_col_ne _ _ _ _ _ _ _ _ (.inr h1)]
      by_cases h0 : d.val = 2 * h.val
      · have ed : d = ⟨(mCol h).val, col128 _⟩ := Fin.ext h0
        rw [ed, store_col, cast_col]
        unfold partOf part
        rw [dif_neg e8, if_pos (by show (2 * h.val) % 2 = 0; omega), show colHead ⟨(mCol h).val, col128 _⟩ = h from Fin.ext (by show (2 * h.val) / 2 % 8 = h.val; omega)]
      · rw [store_col_ne _ _ _ _ _ _ _ _ (.inr h0), store_row_ne _ _ _ _ _ (fun e => by have := congrArg Fin.val e; change 8 = h.val at this; omega)]
        exact hf 8 q d (.inr ⟨rfl, by omega⟩)
  · rw [store_col_ne _ _ _ _ _ _ _ _ (.inl hr8), store_col_ne _ _ _ _ _ _ _ _ (.inl hr8)]
    by_cases e : r = oRow h
    · subst e
      rw [store_row, cast_row]
      unfold partOf part
      rw [dif_pos (show (oRow h).val < 8 from hh)]; rfl
    · rw [store_row_ne _ _ _ _ _ e]
      have hne : r.val ≠ h.val := fun e' => e (Fin.ext e')
      refine hf r q d (.inl ?_)
      rcases hr with hr | hr
      · omega
      · exact absurd hr.1 hr8

theorem head_spec (c : Dev nD) (i : ℕ) :
    iprop(Here m c i ∗ qPts m c ∗ Mine m c (bOf i) (i % 8)) ⊢ wpS c (head i) fun _ => iprop(Idle m c (sOf i) ∗ qPts m c ∗ Mine m c (bOf i) (i % 8 + 1)) := by
  unfold head Here Here1 qPts Mine slotPts
  simp only [wpS, Prog.lift, Prog.bind_op, Prog.bind_ret]
  iintro ⟨⟨⟨⟨%fk, Hk⟩, Hks⟩, ⟨⟨%fv, Hv⟩, Hvs⟩⟩, Hq, ⟨%f, %hf, Ho⟩⟩
  unfold oPts
  iapply (wp_load 𝒱₀ (c : Thread nD τ) none Set.univ (m := qM) (Finset.subset_univ _)) $$ Hq; iintro Hq
  rw [load_q]
  iapply (wp_load 𝒱₀ (c : Thread nD τ) none Set.univ (m := kbM) (by rw [set_kslot]; exact setOn_load_kslot (sOf i))) $$ Hk; iintro Hk
  unfold fetchedTo
  rw [fetched_k]
  iapply (wp_load 𝒱₀ (c : Thread nD τ) none Set.univ (m := vbM) (by rw [set_vslot]; exact setOn_load_vslot (sOf i))) $$ Hv; iintro Hv
  rw [fetched_v]
  iapply (wp_load 𝒱₀ (c : Thread nD τ) none Set.univ (m := oM) (setOn_load_row 0 (bOf i) (oRow (hOf i)))) $$ Ho; iintro Ho
  iapply (wp_store 𝒱₀ (c : Thread nD τ) none Set.univ (m := oM) (r := oR 0 (bOf i) (oRow (hOf i))) (Mk := Finset.univ) (by rw [access_row]; exact set_row_subset _ _ _)) $$ Ho; iintro Ho
  iapply (wp_load 𝒱₀ (c : Thread nD τ) none Set.univ (m := oM) (setOn_load_col 0 (bOf i) (mCol (hOf i)))) $$ Ho; iintro Ho
  iapply (wp_store 𝒱₀ (c : Thread nD τ) none Set.univ (m := oM) (r := colR 0 (bOf i) (mCol (hOf i))) (Mk := Finset.univ) (by rw [access_col]; exact set_col_subset _ _ _)) $$ Ho; iintro Ho
  iapply (wp_load 𝒱₀ (c : Thread nD τ) none Set.univ (m := oM) (setOn_load_col 0 (bOf i) (lCol (hOf i)))) $$ Ho; iintro Ho
  iapply (wp_store 𝒱₀ (c : Thread nD τ) none Set.univ (m := oM) (r := colR 0 (bOf i) (lCol (hOf i))) (Mk := Finset.univ) (by rw [access_col]; exact set_col_subset _ _ _)) $$ Ho; iintro Ho
  rw [wp_ret]; imodintro
  isplitl [Hk Hks Hv Hvs]
  · unfold Idle Idle1 slotPts
    isplitl [Hk Hks]
    · isplitl [Hk]; · iexists _; iexact Hk
      iexact Hks
    · isplitl [Hv]; · iexists _; iexact Hv
      iexact Hvs
  isplitl [Hq]; · iexact Hq
  iexists _
  isplitr
  rotate_left
  · iexact Ho
  · ipureintro
    exact done_succ m c (bOf i) (hOf i) f hf

/-! ## The turns -/

def Slot (c : Dev nD) (i : ℕ) : sProp 𝕄 := if i < 32 then Fly m c i else Idle m c (sOf i)
/-- Before turn `i`: three fetches ahead, one slot free. -/
def Ring (c : Dev nD) (i : ℕ) : sProp 𝕄 := iprop(Slot m c i ∗ Slot m c (i + 1) ∗ Slot m c (i + 2) ∗ Idle m c (sOf (i + 3)))

theorem slot_fetch (c : Dev nD) (i : ℕ) : Idle m c (sOf i) ⊢ wpS c (if i < 32 then fetch i else pure ⟨⟩) fun _ => Slot m c i := by
  unfold Slot
  by_cases h : i < 32
  · rw [if_pos h, if_pos h]; exact fetch_spec m c i
  · rw [if_neg h, if_neg h]
    simp only [wpS, Prog.pure_eq_ret, wp_ret]
    iintro H; imodintro; iexact H

theorem sOf_four (i : ℕ) : sOf (i + 1 + 3) = sOf i := Fin.ext (by show (i + 1 + 3) % 4 = i % 4; omega)

theorem turn_eq (i : ℕ) : (turn i : Step F) = (if i + 3 < 32 then fetch (i + 3) else pure ⟨⟩) >>= fun _ => await i >>= fun _ => head i := by
  unfold turn
  by_cases h : i + 3 < 32
  · rw [if_pos h]; simp only [if_pos h]
  · rw [if_neg h]; simp only [if_neg h, pure_bind]

theorem turn_spec (c : Dev nD) (i : ℕ) (hi : i < 32) (l : List Due) (hl : ∀ x ∈ l, 0 < lvS x.1.2) :
    iprop(Ctx m K ∗ Ring m c i ∗ qPts m c ∗ Mine m c (bOf i) (i % 8) ∗ Ow c l)
      ⊢ wpS c (turn i) fun _ => iprop(Ring m c (i + 1) ∗ qPts m c ∗ Mine m c (bOf i) (i % 8 + 1) ∗ Ow c l) := by
  unfold Ring
  rw [turn_eq]
  iintro ⟨#HC, ⟨H0, H1, H2, H3⟩, Hq, Ho, HO⟩
  iapply (run (slot_fetch m c (i + 3))) $$ H3
  iintro H3
  ihave H0 := (Entails.of_eq (show Slot m c i = Fly m c i from if_pos hi)) $$ H0
  iapply (run (await_spec m K c i l hl)) $$ [H0 HO]
  · isplitr; · iexact HC
    isplitl [H0] <;> iassumption
  iintro ⟨H0, HO⟩
  iapply (runLast (head_spec m c i)) $$ [H0 Hq Ho]
  · isplitl [H0]; · iexact H0
    isplitl [Hq] <;> iassumption
  iintro ⟨H0, Hq, Ho⟩
  isplitl [H0 H1 H2 H3]
  · isplitl [H1]; · iexact H1
    isplitl [H2]; · iexact H2
    isplitl [H3]; · iexact H3
    rw [sOf_four]; iexact H0
  isplitl [Hq]; · iexact Hq
  isplitl [Ho] <;> iassumption

/-- The turns of one batch, from its head `8 - n` on. -/
theorem turns_spec (c : Dev nD) (b : Fin 4) (l : List Due) (hl : ∀ x ∈ l, 0 < lvS x.1.2) (n : ℕ) (hn : n ≤ 8) :
    iprop(Ctx m K ∗ Ring m c (8 * b.val + (8 - n)) ∗ qPts m c ∗ Mine m c b (8 - n) ∗ Ow c l)
      ⊢ wpS c (turns (8 * b.val + (8 - n)) n) fun _ => iprop(Ring m c (8 * b.val + 8) ∗ qPts m c ∗ Mine m c b 8 ∗ Ow c l) := by
  have hb := b.isLt
  induction n with
  | zero =>
    unfold turns
    simp only [wpS, Prog.pure_eq_ret, wp_ret]
    iintro ⟨-, H⟩; imodintro; iexact H
  | succ n ih =>
    unfold turns
    have eb : bOf (8 * b.val + (8 - (n + 1))) = b := Fin.ext (by show (8 * b.val + (8 - (n + 1))) / 8 % 4 = b.val; omega)
    have em : (8 * b.val + (8 - (n + 1))) % 8 = 8 - (n + 1) := by omega
    have e1 : 8 * b.val + (8 - (n + 1)) + 1 = 8 * b.val + (8 - n) := by omega
    have e2 : 8 - (n + 1) + 1 = 8 - n := by omega
    have h := turn_spec m K c (8 * b.val + (8 - (n + 1))) (by omega) l hl
    rw [eb, em, e1, e2] at h
    rw [e1]
    iintro ⟨#HC, H⟩
    iapply (run h) $$ [H]
    · isplitr; · iexact HC
      iexact H
    iintro H
    iapply (ih (by omega))
    isplitr; · iexact HC
    iexact H

theorem batch_spec (c : Dev nD) (b : Fin 4) (i j : ℕ) (hi : i = 8 * b.val) (hj : j = i + 8) (l : List Due) (hl : ∀ x ∈ l, 0 < lvS x.1.2) :
    iprop(Ctx m K ∗ Ring m c i ∗ qPts m c ∗ Mine m c b 0 ∗ Ow c l)
      ⊢ wpS c (turns i 8) fun _ => iprop(Ring m c j ∗ qPts m c ∗ Mine m c b 8 ∗ Ow c l) := by
  subst hj hi
  exact turns_spec m K c b l hl 8 (le_refl 8)

end Cert.KernelIdeal.Attn

end
-- ==== Proof.KernelIdeal.Stages.lean ====
/-
The way of one batch through the exchange, stage by stage: each stage is one assertion, each group of the body's steps takes
the batch from one stage to the next.
-/
module

public import proofs.«01_k».proof.Proof.KernelIdeal.Heads

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 33 → ℕ)

/-! ## Shares and parts of the buffer -/

theorem oPts_share (c : Dev nD) (S : Finset OIdx) (q : PosShare TreeShare) (f : OBuf F) :
    (oPts c S q f : sProp 𝕄) ⊣⊢ iprop(oPts c S q.left f ∗ oPts c S q.right f) :=
  pointsTo_share (PosShare.mem_left_op_right q)

/-- The two halves of a share, joined at the contents of the first; -/
theorem oPts_join (c : Dev nD) (S : Finset OIdx) (q : PosShare TreeShare) (f g : OBuf F) :
    iprop(oPts c S q.left f ∗ oPts c S q.right g) ⊢ (oPts c S q f : sProp 𝕄) := by
  have h : iprop(oPts c S q.left f ∗ oPts c S q.right g) ⊢ (⌜∀ i ∈ S ∩ S, f i = g i⌝ : sProp 𝕄) :=
    BIBase.Entails.trans pointsTo_agree (Laws.pure_mono fun h i hi => (h i hi).1)
  iintro H
  ihave H := (persistent_entails_right h) $$ H
  icases H with ⟨%h, H1, H2⟩
  ihave H2 := (Entails.of_eq (show (oPts c S q.right g : sProp 𝕄) = oPts c S q.right f from
    (pointsTo_congr (fun i hi => h i (Finset.mem_inter.mpr ⟨hi, hi⟩))).symm)) $$ H2
  iapply (oPts_share c S q f).2
  isplitl [H1] <;> iassumption
theorem oAny_join (c : Dev nD) (S : Finset OIdx) (q : PosShare TreeShare) :
    iprop(oAny c S q.left ∗ oAny c S q.right) ⊢ (oAny c S q : sProp 𝕄) := by
  unfold oAny
  iintro ⟨⟨%f, H1⟩, ⟨%g, H2⟩⟩
  iexists f
  iapply (oPts_join c S q f g)
  isplitl [H1] <;> iassumption

/-- The rows of a batch, its first four and its last five. -/
theorem oPts_rows (c : Dev nD) (j b : Fin 4) (q : PosShare TreeShare) (f : OBuf F) :
    (oPts c (regA j b) q f : sProp 𝕄) ⊣⊢ iprop(oPts c (regLo j b) q f ∗ oPts c (regHi j b) q f) := by
  rw [regA_eq]; exact pointsTo_union (regLo_disjoint j b)
theorem oAny_rows (c : Dev nD) (j b : Fin 4) (q : PosShare TreeShare) :
    iprop(oAny c (regLo j b) q ∗ oAny c (regHi j b) q) ⊢ (oAny c (regA j b) q : sProp 𝕄) := by
  rw [regA_eq]; unfold oAny
  iintro ⟨⟨%f, H1⟩, ⟨%g, H2⟩⟩
  iexists _
  unfold oPts
  iapply (pointsTo_join (regLo_disjoint j b))
  isplitl [H1] <;> iassumption
theorem oGood_rows (c : Dev nD) (j b : Fin 4) (X : Part F) (q : PosShare TreeShare) :
    iprop(oGood c j b X loRow (regLo j b) q ∗ oGood c j b X hiRow (regHi j b) q) ⊢ (oGood c j b X anyRow (regA j b) q : sProp 𝕄) := by
  rw [regA_eq]; unfold oGood
  iintro ⟨⟨%f, %hf, H1⟩, ⟨%g, %hg, H2⟩⟩
  iexists ((regHi j b).piecewise g f)
  isplitr
  · ipureintro
    intro r p d _ h
    by_cases hr : 4 ≤ r.val
    · rw [Finset.piecewise_eq_of_mem _ _ _ (mem_regHi.mpr ⟨rfl, rfl, hr⟩)]; exact hg r p d hr h
    · rw [Finset.piecewise_eq_of_notMem _ _ _ (fun hh => hr (mem_regHi.mp hh).2.2)]; exact hf r p d (by show r.val < 4; omega) h
  unfold oPts
  iapply (pointsTo_join (regLo_disjoint j b))
  isplitl [H1] <;> iassumption
theorem oGood_any (c : Dev nD) (j b : Fin 4) (X : Part F) (R : Fin 9 → Prop) (S : Finset OIdx) (q : PosShare TreeShare) :
    (oGood c j b X R S q : sProp 𝕄) ⊢ oAny c S q := by
  unfold oGood oAny
  iintro ⟨%f, -, H⟩
  iexists f; iexact H

/-! ## The pieces -/

def posOf (c : Dev nD) (q : DmaSem sig) : sProp 𝕄 := atPos ER (dmaCell c q) 0 ∅ 0
def zeroOf (c : Dev nD) (q : DmaSem sig) : sProp 𝕄 := semVal (dmaCell c q) 0
/-- What waits for a copy: its cell's position and the credit of its amount. -/
def waitA (c : Dev nD) (q : DmaSem sig) : sProp 𝕄 := iprop(posOf c q ∗ cred (tallyAt (dmaCell c q) () nAll))
def waitB (c : Dev nD) (d : Fin 2) (q : DmaSem sig) : sProp 𝕄 := iprop(posOf c q ∗ cred (tallyAt (dmaCell c q) () (nB d)))
/-- What a copy still to be sent needs. -/
def sendA (c : Dev nD) (d : Fin 2) (b : Fin 4) : sProp 𝕄 := iprop(tokA c d b ∗ zoneA c d b)
def sendB (c : Dev nD) (d : Fin 2) (b : Fin 4) : sProp 𝕄 := iprop(tokB c d b ∗ zoneB c d b)

/-- What is left for the last receive, the second copies, the first receive, at the start. -/
def left2 (c : Dev nD) (b : Fin 4) : sProp 𝕄 := iprop(waitB c 0 (ro2 0 b) ∗ waitB c 1 (ro2 1 b))
def left1 (c : Dev nD) (b : Fin 4) : sProp 𝕄 :=
  iprop((sendB c 0 b ∗ sendB c 1 b) ∗ (posOf c (so2 0 b) ∗ posOf c (so2 1 b)) ∗ left2 c b)
def left0 (c : Dev nD) (b : Fin 4) : sProp 𝕄 := iprop((waitA c (ro1 0 b) ∗ waitA c (ro1 1 b)) ∗ left1 c b)
def atStart (c : Dev nD) (b : Fin 4) : sProp 𝕄 :=
  iprop((sendA c 0 b ∗ sendA c 1 b) ∗ (posOf c (so1 0 b) ∗ posOf c (so1 1 b)) ∗ left0 c b)

/-- The four partial results of a batch as this device holds them. -/
def mine (c : Dev nD) (b : Fin 4) : sProp 𝕄 := oGood c 0 b (partOf m c b) anyRow (regA 0 b) qR0
def fromL (c : Dev nD) (b : Fin 4) : sProp 𝕄 := oGood c 1 b (partOf m (prv c) b) anyRow (regA 1 b) qR0
def fromR (c : Dev nD) (b : Fin 4) : sProp 𝕄 := oGood c 2 b (partOf m (nxt c) b) anyRow (regA 2 b) qR0
def across (c : Dev nD) (b : Fin 4) : sProp 𝕄 := oGood c 3 b (partOf m (prv (prv c)) b) anyRow (regA 3 b) fullShare

/-- The waits for what was sent, and the rows that were not passed on. -/
def goneA (c : Dev nD) (b : Fin 4) : sProp 𝕄 := iprop(waitA c (so1 0 b) ∗ waitA c (so1 1 b))
def goneB (c : Dev nD) (b : Fin 4) : sProp 𝕄 :=
  iprop((waitB c 0 (so2 0 b) ∗ waitB c 1 (so2 1 b)) ∗ (oAny c (regHi 1 b) qL0 ∗ oAny c (regLo 2 b) qL0))
def zero1 (c : Dev nD) (b : Fin 4) : sProp 𝕄 := iprop(zeroOf c (ro1 0 b) ∗ zeroOf c (ro1 1 b))
def zero2 (c : Dev nD) (b : Fin 4) : sProp 𝕄 := iprop(zeroOf c (ro2 0 b) ∗ zeroOf c (ro2 1 b))

/-- The stages: the first copies sent; received; passed on; the last received; everything back. -/
def sent1 (c : Dev nD) (b : Fin 4) : sProp 𝕄 := iprop(mine m c b ∗ goneA c b ∗ left0 c b)
def got1 (c : Dev nD) (b : Fin 4) : sProp 𝕄 :=
  iprop(mine m c b ∗ goneA c b ∗ (gotA m c 0 b ∗ gotA m c 1 b) ∗ zero1 c b ∗ left1 c b)
def sent2 (c : Dev nD) (b : Fin 4) : sProp 𝕄 :=
  iprop((mine m c b ∗ fromL m c b ∗ fromR m c b) ∗ goneA c b ∗ goneB c b ∗ zero1 c b ∗ left2 c b)
def got2 (c : Dev nD) (b : Fin 4) : sProp 𝕄 :=
  iprop((mine m c b ∗ fromL m c b ∗ fromR m c b ∗ across m c b) ∗ goneA c b ∗ goneB c b ∗ zero1 c b ∗ zero2 c b)
def back (c : Dev nD) (b : Fin 4) : sProp 𝕄 :=
  iprop((oAny c (regA 0 b) fullShare ∗ oAny c (regA 1 b) fullShare ∗ oAny c (regA 2 b) fullShare ∗ oAny c (regA 3 b) fullShare)
    ∗ (zeroOf c (so1 0 b) ∗ zeroOf c (so1 1 b)) ∗ zero1 c b ∗ (zeroOf c (so2 0 b) ∗ zeroOf c (so2 1 b)) ∗ zero2 c b)

/-! ## The steps -/

theorem wait_on (c : Dev nD) (q : DmaSem sig) (hq : 10 ≤ q.val) {sp sp' : Space} {s s' : Shape} {e e' : EltTy}
    {src : Memref sig .tc sp' s' e'} {dst : Memref sig .tc sp s e} {hs : src.view.WordExact} {hd : dst.view.WordExact}
    (N : ℕ) (hN : dst.view.dmaCredit = N) (hA : dmaAmt q.val = N) (P : sProp 𝕄) (hP : dmaPay m c q.val = P)
    (l : List Due) (hl : ∀ x ∈ l, lvS (.dma q) < lvS x.1.2) :
    iprop(Ctx m K ∗ (posOf c q ∗ cred (tallyAt (dmaCell c q) () N)) ∗ Ow c l)
      ⊢ wpS (F := F) c (Prog.lift (.waitDma2 q src dst hs hd)) fun _ => iprop(P ∗ zeroOf c q ∗ Ow c l) := by
  subst hP
  have h := wait_spec m K c q hq (src := src) (hs := hs) (hd := hd) N hN hA l hl
  refine BIBase.Entails.trans ?_ h
  unfold posOf
  iintro ⟨H0, ⟨H1, H2⟩, H3⟩
  isplitl [H0]; · iexact H0
  isplitl [H1]; · iexact H1
  isplitl [H2] <;> iassumption

theorem hop1s_spec (c n n' : Dev nD) (b : Fin 4) (hn : n = nxt c) (hn' : n' = prv c) (l : List Due) :
    iprop(Ctx m K ∗ atStart c b ∗ Mine m c b 8 ∗ Ow c (dueA c 0 b :: dueA c 1 b :: l))
      ⊢ wpS c (hop1 0 1 b n >>= fun _ => hop1 1 2 b n') fun _ => iprop(sent1 m c b ∗ Ow c l) := by
  unfold atStart sendA Mine
  iintro ⟨#HC, ⟨⟨⟨Ht0, Hz0⟩, ⟨Ht1, Hz1⟩⟩, ⟨Hp0, Hp1⟩, HR⟩, ⟨%f, %hf, Ho⟩, HO⟩
  ihave Ho := (oPts_share c (regA 0 b) fullShare f).1 $$ Ho
  icases Ho with ⟨Ho, Hr⟩
  ihave Ho := (oPts_share c (regA 0 b) fullShare.left f).1 $$ Ho
  icases Ho with ⟨Ho0, Ho1⟩
  iapply (run (hop1_spec m K c n 0 b 1 hn rfl f (done_good m c b f hf) (dueA c 1 b :: l))) $$ [Ht0 Hz0 Ho0 HO]
  · isplitr; · iexact HC
    isplitl [Ht0]; · iexact Ht0
    isplitl [Hz0]; · iexact Hz0
    isplitl [Ho0]; · iexact Ho0
    iexact HO
  iintro ⟨Hc0, HO⟩
  iapply (runLast (hop1_spec m K c n' 1 b 2 hn' rfl f (done_good m c b f hf) l)) $$ [Ht1 Hz1 Ho1 HO]
  · isplitr; · iexact HC
    isplitl [Ht1]; · iexact Ht1
    isplitl [Hz1]; · iexact Hz1
    isplitl [Ho1]; · iexact Ho1
    iexact HO
  iintro ⟨Hc1, HO⟩
  unfold sent1 mine goneA waitA oGood
  isplitr [HO]
  · isplitl [Hr]
    · iexists f
      isplitr; · ipureintro; exact done_good m c b f hf
      iexact Hr
    isplitr [HR]
    · isplitl [Hp0 Hc0]
      · isplitl [Hp0] <;> iassumption
      · isplitl [Hp1] <;> iassumption
    iexact HR
  iexact HO

theorem nB_zero : nB 0 = nLo := if_pos rfl
theorem nB_one : nB 1 = nHi := if_neg (by decide)

theorem lv_ro1 (d : Fin 2) (b : Fin 4) : lvS (.dma (ro1 d b)) = 2 + 2 * b.val := by
  unfold lvS; dsimp only; rw [ro1_val]; have := d.isLt; have := b.isLt
  rw [if_neg (by omega), if_pos (by omega)]; omega
theorem lv_ro2 (d : Fin 2) (b : Fin 4) : lvS (.dma (ro2 d b)) = 5 + 2 * b.val := by
  unfold lvS; dsimp only; rw [ro2_val]; have := d.isLt; have := b.isLt
  rw [if_neg (by omega), if_neg (by omega), if_neg (by omega)]; omega

theorem recv1_spec (c : Dev nD) (b : Fin 4) (l : List Due) (hl : ∀ x ∈ l, 2 + 2 * b.val < lvS x.1.2) :
    iprop(Ctx m K ∗ sent1 m c b ∗ Ow c l) ⊢ wpS c (recv1 b) fun _ => iprop(got1 m c b ∗ Ow c l) := by
  unfold sent1 left0 waitA recv1
  iintro ⟨#HC, ⟨Hm, Hg, ⟨Hw0, Hw1⟩, HR⟩, HO⟩
  iapply (run (wait_on m K c (ro1 0 b) (ge_ro1 0 b) nAll (credit_all 1 b) (amt_ro1 0 b) (gotA m c 0 b) (pay_ro1 m c 0 b) l (by rw [lv_ro1]; exact hl))) $$ [Hw0 HO]
  · isplitr; · iexact HC
    isplitl [Hw0] <;> iassumption
  iintro ⟨Hx0, Hv0, HO⟩
  iapply (runLast (wait_on m K c (ro1 1 b) (ge_ro1 1 b) nAll (credit_all 2 b) (amt_ro1 1 b) (gotA m c 1 b) (pay_ro1 m c 1 b) l (by rw [lv_ro1]; exact hl))) $$ [Hw1 HO]
  · isplitr; · iexact HC
    isplitl [Hw1] <;> iassumption
  iintro ⟨Hx1, Hv1, HO⟩
  unfold got1 zero1
  isplitr [HO]
  · isplitl [Hm]; · iexact Hm
    isplitl [Hg]; · iexact Hg
    isplitl [Hx0 Hx1]
    · isplitl [Hx0] <;> iassumption
    isplitl [Hv0 Hv1]
    · isplitl [Hv0] <;> iassumption
    iexact HR
  iexact HO

theorem hop2s_spec (c n n' : Dev nD) (b : Fin 4) (hn : n = nxt c) (hn' : n' = prv c) (l : List Due) :
    iprop(Ctx m K ∗ got1 m c b ∗ Ow c (dueB c 0 b :: dueB c 1 b :: l))
      ⊢ wpS c (hop2r b n >>= fun _ => hop2l b n') fun _ => iprop(sent2 m c b ∗ Ow c l) := by
  unfold got1 left1 sendB
  rw [show (gotA m c 0 b : sProp 𝕄) = oGood c 1 b (partOf m (prv c) b) anyRow (regA 1 b) fullShare from rfl,
    show (gotA m c 1 b : sProp 𝕄) = oGood c 2 b (partOf m (nxt c) b) anyRow (regA 2 b) fullShare from rfl]
  unfold oGood
  iintro ⟨#HC, ⟨Hm, Hg, ⟨⟨%f, %hf, Hf⟩, ⟨%g, %hg, Hh⟩⟩, Hz, ⟨⟨Ht0, Hz0⟩, ⟨Ht1, Hz1⟩⟩, ⟨Hp0, Hp1⟩, HR⟩, HO⟩
  ihave Hf := (oPts_share c (regA 1 b) fullShare f).1 $$ Hf
  icases Hf with ⟨Hf, Hfr⟩
  ihave Hf := (oPts_rows c 1 b fullShare.left f).1 $$ Hf
  icases Hf with ⟨Hflo, Hfhi⟩
  ihave Hh := (oPts_share c (regA 2 b) fullShare g).1 $$ Hh
  icases Hh with ⟨Hh, Hhr⟩
  ihave Hh := (oPts_rows c 2 b fullShare.left g).1 $$ Hh
  icases Hh with ⟨Hhlo, Hhhi⟩
  iapply (run (hop2r_spec m K c n b hn f hf (dueB c 1 b :: l))) $$ [Ht0 Hz0 Hflo HO]
  · isplitr; · iexact HC
    isplitl [Ht0]; · iexact Ht0
    isplitl [Hz0]; · iexact Hz0
    isplitl [Hflo]; · iexact Hflo
    iexact HO
  iintro ⟨Hc0, HO⟩
  iapply (runLast (hop2l_spec m K c n' b hn' g hg l)) $$ [Ht1 Hz1 Hhhi HO]
  · isplitr; · iexact HC
    isplitl [Ht1]; · iexact Ht1
    isplitl [Hz1]; · iexact Hz1
    isplitl [Hhhi]; · iexact Hhhi
    iexact HO
  iintro ⟨Hc1, HO⟩
  unfold sent2 goneB waitB
  rw [nB_zero, nB_one]
  unfold fromL fromR oGood oAny
  isplitr [HO]
  · isplitl [Hm Hfr Hhr]
    · isplitl [Hm]; · iexact Hm
      isplitl [Hfr]
      · iexists f
        isplitr; · ipureintro; exact hf
        iexact Hfr
      · iexists g
        isplitr; · ipureintro; exact hg
        iexact Hhr
    isplitl [Hg]; · iexact Hg
    isplitl [Hp0 Hp1 Hc0 Hc1 Hfhi Hhlo]
    · isplitl [Hp0 Hp1 Hc0 Hc1]
      · isplitl [Hp0 Hc0]
        · isplitl [Hp0] <;> iassumption
        · isplitl [Hp1] <;> iassumption
      · isplitl [Hfhi]
        · iexists f; iexact Hfhi
        · iexists g; iexact Hhlo
    isplitl [Hz]; · iexact Hz
    iexact HR
  iexact HO

theorem recv2_spec (c : Dev nD) (b : Fin 4) (l : List Due) (hl : ∀ x ∈ l, 5 + 2 * b.val < lvS x.1.2) :
    iprop(Ctx m K ∗ sent2 m c b ∗ Ow c l) ⊢ wpS c (recv2 b) fun _ => iprop(got2 m c b ∗ Ow c l) := by
  unfold sent2 left2 waitB recv2
  rw [nB_zero, nB_one]
  iintro ⟨#HC, ⟨⟨Hm, HL, HRt⟩, Hg, Hg', Hz, ⟨Hw0, Hw1⟩⟩, HO⟩
  iapply (run (wait_on m K c (ro2 0 b) (ge_ro2 0 b) nLo (credit_lo 3 b) (amt_ro2 0 b) (oGood c 3 b (partOf m (prv (prv c)) b) loRow (regLo 3 b) fullShare) (pay_ro2 m c 0 b) l (by rw [lv_ro2]; exact hl))) $$ [Hw0 HO]
  · isplitr; · iexact HC
    isplitl [Hw0] <;> iassumption
  iintro ⟨Hx0, Hv0, HO⟩
  iapply (runLast (wait_on m K c (ro2 1 b) (ge_ro2 1 b) nHi (credit_hi 3 b) (amt_ro2 1 b) (oGood c 3 b (partOf m (prv (prv c)) b) hiRow (regHi 3 b) fullShare) (pay_ro2 m c 1 b) l (by rw [lv_ro2]; exact hl))) $$ [Hw1 HO]
  · isplitr; · iexact HC
    isplitl [Hw1] <;> iassumption
  iintro ⟨Hx1, Hv1, HO⟩
  unfold got2 zero2 across
  isplitr [HO]
  · isplitl [Hm HL HRt Hx0 Hx1]
    · isplitl [Hm]; · iexact Hm
      isplitl [HL]; · iexact HL
      isplitl [HRt]; · iexact HRt
      iapply (oGood_rows c 3 b (partOf m (prv (prv c)) b) fullShare)
      isplitl [Hx0]
      · iexact Hx0
      · iexact Hx1
    isplitl [Hg]; · iexact Hg
    isplitl [Hg']; · iexact Hg'
    isplitl [Hz]; · iexact Hz
    isplitl [Hv0] <;> iassumption
  iexact HO

theorem sent_spec (c : Dev nD) (b : Fin 4) :
    iprop(Ctx m K ∗ got2 m c b ∗ Ow c []) ⊢ wpS c (sent b) fun _ => iprop(back c b ∗ Ow c []) := by
  have hl : ∀ q : DmaSem sig, ∀ x ∈ ([] : List Due), lvS (.dma q) < lvS x.1.2 := fun q x hx => absurd hx List.not_mem_nil
  unfold got2 goneA goneB waitA waitB sent
  rw [nB_zero, nB_one]
  iintro ⟨#HC, ⟨⟨Hm, HL, HRt, Hf⟩, ⟨Hw0, Hw1⟩, ⟨⟨Hw2, Hw3⟩, ⟨Hk1, Hk2⟩⟩, Hz1, Hz2⟩, HO⟩
  iapply (run (wait_on m K c (so1 0 b) (ge_so1 0 b) nAll (credit_all 0 b) (amt_so1 0 b) (oAny c (regA 0 b) fullShare.left.left) (pay_so1 m c 0 b) [] (hl _))) $$ [Hw0 HO]
  · isplitr; · iexact HC
    isplitl [Hw0] <;> iassumption
  iintro ⟨Hx0, Hv0, HO⟩
  iapply (run (wait_on m K c (so1 1 b) (ge_so1 1 b) nAll (credit_all 0 b) (amt_so1 1 b) (oAny c (regA 0 b) fullShare.left.right) (pay_so1 m c 1 b) [] (hl _))) $$ [Hw1 HO]
  · isplitr; · iexact HC
    isplitl [Hw1] <;> iassumption
  iintro ⟨Hx1, Hv1, HO⟩
  iapply (run (wait_on m K c (so2 0 b) (ge_so2 0 b) nLo (credit_lo 1 b) (amt_so2 0 b) (oAny c (regLo 1 b) fullShare.left) (pay_so2 m c 0 b) [] (hl _))) $$ [Hw2 HO]
  · isplitr; · iexact HC
    isplitl [Hw2] <;> iassumption
  iintro ⟨Hx2, Hv2, HO⟩
  iapply (runLast (wait_on m K c (so2 1 b) (ge_so2 1 b) nHi (credit_hi 2 b) (amt_so2 1 b) (oAny c (regHi 2 b) fullShare.left) (pay_so2 m c 1 b) [] (hl _))) $$ [Hw3 HO]
  · isplitr; · iexact HC
    isplitl [Hw3] <;> iassumption
  iintro ⟨Hx3, Hv3, HO⟩
  isplitr [HO]
  rotate_left
  · iexact HO
  unfold back
  isplitl [Hm HL HRt Hf Hx0 Hx1 Hx2 Hx3 Hk1 Hk2]
  · isplitl [Hm Hx0 Hx1]
    · unfold mine
      iapply (oAny_join c (regA 0 b) fullShare)
      isplitl [Hx0 Hx1]
      · iapply (oAny_join c (regA 0 b) fullShare.left)
        isplitl [Hx0]
        · iexact Hx0
        · iexact Hx1
      · iapply (oGood_any c 0 b (partOf m c b) anyRow (regA 0 b) qR0); iexact Hm
    isplitl [HL Hx2 Hk1]
    · unfold fromL
      iapply (oAny_join c (regA 1 b) fullShare)
      isplitl [Hx2 Hk1]
      · iapply (oAny_rows c 1 b fullShare.left)
        isplitl [Hx2]
        · iexact Hx2
        · iexact Hk1
      · iapply (oGood_any c 1 b (partOf m (prv c) b) anyRow (regA 1 b) qR0); iexact HL
    isplitl [HRt Hx3 Hk2]
    · unfold fromR
      iapply (oAny_join c (regA 2 b) fullShare)
      isplitl [Hx3 Hk2]
      · iapply (oAny_rows c 2 b fullShare.left)
        isplitl [Hk2]
        · iexact Hk2
        · iexact Hx3
      · iapply (oGood_any c 2 b (partOf m (nxt c) b) anyRow (regA 2 b) qR0); iexact HRt
    · unfold across
      iapply (oGood_any c 3 b (partOf m (prv (prv c)) b) anyRow (regA 3 b) fullShare); iexact Hf
  isplitl [Hv0 Hv1]
  · isplitl [Hv0] <;> iassumption
  isplitl [Hz1]; · iexact Hz1
  isplitl [Hv2 Hv3]
  · isplitl [Hv2] <;> iassumption
  iexact Hz2

end Cert.KernelIdeal.Attn

end
-- ==== Proof.KernelIdeal.Comb.lean ====
/-
The combination of four partial results, head by head, into the output.
-/
module

public import proofs.«01_k».proof.Proof.KernelIdeal.Stages

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A column of the ninth row, and a row, of a partial result, as the loads deliver them. -/
def colVec (X : Part F) (n : Fin 16) : Vec F S1x1x1x32x1 .f32 := fun x => X 8 (x 3) ⟨n.val, col128 n⟩
def rowVec (X : Part F) (r : Fin 9) : Vec F S1x1x1x32x128 .f32 := fun x => X r (x 3) (x 4)

theorem idx_col (x : S1x1x1x32x1.Idx) : ∃ q : Fin 32, x = ix5 (0 : Fin 1) (0 : Fin 1) (0 : Fin 1) q (0 : Fin 1) :=
  ⟨x 3, funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _⟩
theorem idx_row (x : S1x1x1x32x128.Idx) : ∃ (q : Fin 32) (d : Fin 128), x = ix5 (0 : Fin 1) (0 : Fin 1) (0 : Fin 1) q d :=
  ⟨x 3, x 4, funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩

theorem load_col_good {j b : Fin 4} {X : Part F} {f : OBuf F} (hf : Good j b X anyRow f) (n : Fin 16) :
    (oM.view.readAt (Elt F) (colR j b n).toLoadRect f : Vec F S1x1x1x32x1 .f32) = colVec X n := by
  funext x; obtain ⟨q, rfl⟩ := idx_col x
  rw [load_col, hf 8 q _ trivial (.inr n.isLt)]; rfl
theorem load_row_good {j b : Fin 4} {X : Part F} {f : OBuf F} (hf : Good j b X anyRow f) (h : Fin 8) :
    (oM.view.readAt (Elt F) (oR j b (oRow h)).toLoadRect f : Vec F S1x1x1x32x128 .f32) = rowVec X (oRow h) := by
  funext x; obtain ⟨q, d, rfl⟩ := idx_row x
  rw [load_row, hf (oRow h) q d trivial (.inl h.isLt)]; rfl

/-- One head of the output of four partial results, of device `c`. -/
def outOf (X0 X1 X2 X3 : Part F) (h : Fin 8) : FVec F S32x128 .f32 :=
  combined (colVec X0 (mCol h)) (colVec X1 (mCol h)) (colVec X2 (mCol h)) (colVec X3 (mCol h))
    (colVec X0 (lCol h)) (colVec X1 (lCol h)) (colVec X2 (lCol h)) (colVec X3 (lCol h))
    (rowVec X0 (oRow h)) (rowVec X1 (oRow h)) (rowVec X2 (oRow h)) (rowVec X3 (oRow h))
def outVal (c : Dev nD) (b : Fin 4) (h : Fin 8) : FVec F S32x128 .f32 :=
  outOf (partOf m c b) (partOf m (prv c) b) (partOf m (nxt c) b) (partOf m (prv (prv c)) b) h

/-- The output's contents. -/
abbrev OutBuf (F : FTy → Type) [FloatOps F] : Type := (cc0_stg1_0 : Ref sig .tc).ty.Contents (Elt F)
/-- The first `n` heads of the output, counted batch after batch, written. -/
def Written (c : Dev nD) (n : ℕ) (f : OutBuf F) : Prop :=
  ∀ (b : Fin 4) (h : Fin 8) (q : Fin 32) (d : Fin 128), 8 * b.val + h.val < n → f (ix4 b q h d : S4x32x8x128.Idx) = outVal m c b h (ix2 q d)
def Out (c : Dev nD) (n : ℕ) : sProp 𝕄 :=
  iprop(∃ f, ⌜Written m c n f⌝ ∗ (((c : Thread nD τ).loc cc0_stg1_0) ↦{fullShare} (f : Buf (Elt F) ((c : Thread nD τ).loc cc0_stg1_0))))

theorem cast_out (w : FVec F S32x128 .f32) (q : Fin 32) (d : Fin 128) :
    shapeCast S1x32x1x128 w shapeCasts_S32x128_S1x32x1x128 (ix4 (0 : Fin 1) q (0 : Fin 1) d) = w (ix2 q d) :=
  shapeCast_apply w _ _ _ (by
    rw [Shape.rowMajor_val_two, Shape.rowMajor_val_four]
    show q.val * 128 + d.val = (((0 * 32 + q.val) * 1 + 0) * 128 + d.val)
    omega)

theorem written_succ (c : Dev nD) (n : ℕ) (b : Fin 4) (h : Fin 8) (hn : n = 8 * b.val + h.val) (f : OutBuf F) (hf : Written m c n f) :
    Written m c (n + 1) ((outM.access (qR b h)).write (Elt F) f (shapeCast S1x32x1x128 (outVal m c b h) shapeCasts_S32x128_S1x32x1x128) Finset.univ) := by
  intro b' h' q d hlt
  by_cases e : b' = b ∧ h' = h
  · obtain ⟨rfl, rfl⟩ := e
    rw [store_out, cast_out]
  · rw [store_out_ne _ _ _ _ e]
    refine hf b' h' q d ?_
    have := h'.isLt; have := h.isLt
    have hne : ¬ (b'.val = b.val ∧ h'.val = h.val) := fun ⟨e1, e2⟩ => e ⟨Fin.ext e1, Fin.ext e2⟩
    omega

/-- The four partial results of a batch. -/
def four (c : Dev nD) (b : Fin 4) : sProp 𝕄 := iprop(mine m c b ∗ fromL m c b ∗ fromR m c b ∗ across m c b)

theorem comb_spec (c : Dev nD) (b : Fin 4) (h : Fin 8) (n : ℕ) (hn : n = 8 * b.val + h.val) :
    iprop(four m c b ∗ Out m c n) ⊢ wpS c (comb b h) fun _ => iprop(four m c b ∗ Out m c (n + 1)) := by
  unfold four mine fromL fromR across Out oGood comb
  simp only [wpS, Prog.lift, Prog.bind_op, Prog.bind_ret]
  iintro ⟨⟨⟨%f0, %h0, H0⟩, ⟨%f1, %h1, H1⟩, ⟨%f2, %h2, H2⟩, ⟨%f3, %h3, H3⟩⟩, ⟨%g, %hg, Ho⟩⟩
  unfold oPts
  iapply (wp_load 𝒱₀ (c : Thread nD τ) none Set.univ (m := oM) (setOn_load_col 0 b (mCol h))) $$ H0; iintro H0
  rw [load_col_good h0]
  iapply (wp_load 𝒱₀ (c : Thread nD τ) none Set.univ (m := oM) (setOn_load_col 1 b (mCol h))) $$ H1; iintro H1
  rw [load_col_good h1]
  iapply (wp_load 𝒱₀ (c : Thread nD τ) none Set.univ (m := oM) (setOn_load_col 2 b (mCol h))) $$ H2; iintro H2
  rw [load_col_good h2]
  iapply (wp_load 𝒱₀ (c : Thread nD τ) none Set.univ (m := oM) (setOn_load_col 3 b (mCol h))) $$ H3; iintro H3
  rw [load_col_good h3]
  iapply (wp_load 𝒱₀ (c : Thread nD τ) none Set.univ (m := oM) (setOn_load_col 0 b (lCol h))) $$ H0; iintro H0
  rw [load_col_good h0]
  iapply (wp_load 𝒱₀ (c : Thread nD τ) none Set.univ (m := oM) (setOn_load_row 0 b (oRow h))) $$ H0; iintro H0
  rw [load_row_good h0]
  iapply (wp_load 𝒱₀ (c : Thread nD τ) none Set.univ (m := oM) (setOn_load_col 1 b (lCol h))) $$ H1; iintro H1
  rw [load_col_good h1]
  iapply (wp_load 𝒱₀ (c : Thread nD τ) none Set.univ (m := oM) (setOn_load_row 1 b (oRow h))) $$ H1; iintro H1
  rw [load_row_good h1]
  iapply (wp_load 𝒱₀ (c : Thread nD τ) none Set.univ (m := oM) (setOn_load_col 2 b (lCol h))) $$ H2; iintro H2
  rw [load_col_good h2]
  iapply (wp_load 𝒱₀ (c : Thread nD τ) none Set.univ (m := oM) (setOn_load_row 2 b (oRow h))) $$ H2; iintro H2
  rw [load_row_good h2]
  iapply (wp_load 𝒱₀ (c : Thread nD τ) none Set.univ (m := oM) (setOn_load_col 3 b (lCol h))) $$ H3; iintro H3
  rw [load_col_good h3]
  iapply (wp_load 𝒱₀ (c : Thread nD τ) none Set.univ (m := oM) (setOn_load_row 3 b (oRow h))) $$ H3; iintro H3
  rw [load_row_good h3]
  iapply (wp_load 𝒱₀ (c : Thread nD τ) none Set.univ (m := outM) (Finset.subset_univ _)) $$ Ho; iintro Ho
  iapply (wp_store 𝒱₀ (c : Thread nD τ) none Set.univ (m := outM) (r := qR b h) (Mk := Finset.univ) (Finset.subset_univ _)) $$ Ho; iintro Ho
  rw [wp_ret]; imodintro
  isplitr [Ho]
  · isplitl [H0]
    · iexists f0
      isplitr; · ipureintro; exact h0
      iexact H0
    isplitl [H1]
    · iexists f1
      isplitr; · ipureintro; exact h1
      iexact H1
    isplitl [H2]
    · iexists f2
      isplitr; · ipureintro; exact h2
      iexact H2
    · iexists f3
      isplitr; · ipureintro; exact h3
      iexact H3
  iexists _
  isplitr
  rotate_left
  · iexact Ho
  · ipureintro
    exact written_succ m c n b h hn g hg

theorem combs_from (c : Dev nD) (b : Fin 4) (n : ℕ) (hn : n ≤ 8) :
    iprop(four m c b ∗ Out m c (8 * b.val + (8 - n))) ⊢ wpS c (combs b (8 - n) n) fun _ => iprop(four m c b ∗ Out m c (8 * b.val + 8)) := by
  induction n with
  | zero =>
    unfold combs
    simp only [wpS, Prog.pure_eq_ret, wp_ret]
    iintro H; imodintro; iexact H
  | succ n ih =>
    unfold combs
    have e : (hOf (8 - (n + 1))).val = 8 - (n + 1) := by show (8 - (n + 1)) % 8 = _; omega
    have e1 : 8 - (n + 1) + 1 = 8 - n := by omega
    have e2 : 8 * b.val + (8 - (n + 1)) + 1 = 8 * b.val + (8 - n) := by omega
    have h := comb_spec m c b (hOf (8 - (n + 1))) (8 * b.val + (8 - (n + 1))) (by rw [e])
    rw [e2] at h
    rw [e1]
    iintro H
    iapply (run h) $$ H
    iintro H
    iapply (ih (by omega)); iexact H

/-- The combinations of one batch, at the stage where all four results are there. -/
theorem combs_spec (c : Dev nD) (b : Fin 4) (i j : ℕ) (hi : i = 8 * b.val) (hj : j = i + 8) :
    iprop(got2 m c b ∗ Out m c i) ⊢ wpS c (combs b 0 8) fun _ => iprop(got2 m c b ∗ Out m c j) := by
  subst hj hi
  unfold got2
  iintro ⟨⟨H4, HR⟩, Ho⟩
  iapply (runLast (combs_from m c b 8 (le_refl 8))) $$ [H4 Ho]
  · unfold four
    isplitl [H4] <;> iassumption
  iintro ⟨H4, Ho⟩
  isplitr [Ho]
  · isplitl [H4]
    · unfold four; iexact H4
    iexact HR
  iexact Ho

end Cert.KernelIdeal.Attn

end
-- ==== Proof.KernelIdeal.Body.lean ====
/-
The body of one device, from what the launch deals it to what it gives back.
-/
module

public import proofs.«01_k».proof.Proof.KernelIdeal.Comb

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 33 → ℕ)

/-- Two steps run as one. -/
theorem run2 {c : Dev nD} {P R : sProp 𝕄} {p p' : Step F} (h : P ⊢ wpS c (p >>= fun _ => p') fun _ => R) {k : PUnit → Step F} {Q : PUnit → sProp 𝕄} :
    P ⊢ (R -∗ wpS c (k ⟨⟩) Q) -∗ wpS c (p >>= fun _ => p' >>= k) Q := by
  have e : (p >>= fun _ => p' >>= k) = (p >>= fun _ => p') >>= k := by rw [bind_assoc]
  rw [e]; exact run h

/-! ## What the device hands over, and what it starts from -/

def own (c : Dev nD) (b : Fin 4) : sProp 𝕄 :=
  iprop(oAny c (regA 0 b) fullShare ∗ oAny c (regA 1 b) fullShare ∗ oAny c (regA 2 b) fullShare ∗ oAny c (regA 3 b) fullShare)
/-- A batch's tokens and positions. -/
def ready (c : Dev nD) (b : Fin 4) : sProp 𝕄 :=
  iprop((tokA c 0 b ∗ tokA c 1 b ∗ tokB c 0 b ∗ tokB c 1 b) ∗ (posOf c (so1 0 b) ∗ posOf c (so1 1 b))
    ∗ (waitA c (ro1 0 b) ∗ waitA c (ro1 1 b)) ∗ (posOf c (so2 0 b) ∗ posOf c (so2 1 b)) ∗ left2 c b)
/-- The handshake's position, credit and tokens. -/
def barIn (c : Dev nD) : sProp 𝕄 :=
  iprop(atPos ER (barCell c) 0 ∅ 0 ∗ cred (tallyAt (barCell c) () 2) ∗ dutyTok ER (barCell (prv c)) 0 true ∗ dutyTok ER (barCell (nxt c)) 0 false)

theorem own_split (c : Dev nD) (b : Fin 4) :
    own c b ⊢ (iprop(Mine m c b 0 ∗ (zoneA (prv c) 0 b ∗ zoneB (prv c) 0 b) ∗ (zoneA (nxt c) 1 b ∗ zoneB (nxt c) 1 b)) : sProp 𝕄) := by
  rw [show (zoneA (prv c) 0 b : sProp 𝕄) = oAny c (regA 1 b) fullShare by unfold zoneA; rw [if_pos rfl, nxt_prv],
    show (zoneB (prv c) 0 b : sProp 𝕄) = oAny c (regLo 3 b) fullShare by unfold zoneB; rw [if_pos rfl, nxt_prv],
    show (zoneA (nxt c) 1 b : sProp 𝕄) = oAny c (regA 2 b) fullShare by unfold zoneA; rw [if_neg (by decide), prv_nxt],
    show (zoneB (nxt c) 1 b : sProp 𝕄) = oAny c (regHi 3 b) fullShare by unfold zoneB; rw [if_neg (by decide), prv_nxt]]
  have h3 : (oAny c (regA 3 b) fullShare : sProp 𝕄) ⊢ iprop(oAny c (regLo 3 b) fullShare ∗ oAny c (regHi 3 b) fullShare) := by
    unfold oAny
    iintro ⟨%f, H⟩
    ihave H := (oPts_rows c 3 b fullShare f).1 $$ H
    icases H with ⟨H1, H2⟩
    isplitl [H1]
    · iexists f; iexact H1
    · iexists f; iexact H2
  unfold own
  iintro ⟨H0, H1, H2, H3⟩
  ihave H3 := h3 $$ H3
  icases H3 with ⟨H3, H4⟩
  isplitl [H0]; · iapply (mine_zero m c b); iexact H0
  isplitl [H1 H3]
  · isplitl [H1] <;> iassumption
  · isplitl [H2] <;> iassumption

theorem all4_mono {P Q : Fin 4 → sProp 𝕄} (h : ∀ b, P b ⊢ Q b) : all4 P ⊢ all4 Q := by
  unfold all4; exact BIClass.sep_mono (h 0) (BIClass.sep_mono (h 1) (BIClass.sep_mono (h 2) (h 3)))
theorem all4_sep (P Q : Fin 4 → sProp 𝕄) : all4 (fun b => iprop(P b ∗ Q b)) ⊢ iprop(all4 P ∗ all4 Q) := by
  unfold all4
  iintro ⟨⟨H0, H0'⟩, ⟨H1, H1'⟩, ⟨H2, H2'⟩, ⟨H3, H3'⟩⟩
  isplitl [H0 H1 H2 H3]
  · isplitl [H0]; · iexact H0
    isplitl [H1]; · iexact H1
    isplitl [H2] <;> iassumption
  · isplitl [H0']; · iexact H0'
    isplitl [H1']; · iexact H1'
    isplitl [H2'] <;> iassumption
theorem all4_join (P Q : Fin 4 → sProp 𝕄) : iprop(all4 P ∗ all4 Q) ⊢ all4 (fun b => iprop(P b ∗ Q b)) := by
  unfold all4
  iintro ⟨⟨H0, H1, H2, H3⟩, ⟨H0', H1', H2', H3'⟩⟩
  isplitl [H0 H0']; · isplitl [H0] <;> iassumption
  isplitl [H1 H1']; · isplitl [H1] <;> iassumption
  isplitl [H2 H2']; · isplitl [H2] <;> iassumption
  isplitl [H3] <;> iassumption

theorem own_all (c : Dev nD) : all4 (own c) ⊢ (iprop(all4 (fun b => Mine m c b 0) ∗ barPay (prv c) 0 ∗ barPay (nxt c) 1) : sProp 𝕄) := by
  unfold barPay
  iintro H
  ihave H := (all4_mono (own_split m c)) $$ H
  ihave H := (all4_sep (fun b => Mine m c b 0) _) $$ H
  icases H with ⟨H0, H⟩
  ihave H := (all4_sep _ _) $$ H
  isplitl [H0] <;> iassumption

/-- The zones the handshake brings complete a batch's start. -/
theorem start_batch (c : Dev nD) (b : Fin 4) :
    iprop(ready c b ∗ (zoneA c 0 b ∗ zoneB c 0 b) ∗ (zoneA c 1 b ∗ zoneB c 1 b)) ⊢ (atStart c b : sProp 𝕄) := by
  unfold ready atStart left0 left1 sendA sendB
  iintro ⟨⟨⟨Ha0, Ha1, Hb0, Hb1⟩, Hp, Hw, Hp2, H2⟩, ⟨Hza0, Hzb0⟩, ⟨Hza1, Hzb1⟩⟩
  isplitl [Ha0 Ha1 Hza0 Hza1]
  · isplitl [Ha0 Hza0]
    · isplitl [Ha0] <;> iassumption
    · isplitl [Ha1] <;> iassumption
  isplitl [Hp]; · iexact Hp
  isplitl [Hw]; · iexact Hw
  isplitl [Hb0 Hb1 Hzb0 Hzb1]
  · isplitl [Hb0 Hzb0]
    · isplitl [Hb0] <;> iassumption
    · isplitl [Hb1] <;> iassumption
  isplitl [Hp2] <;> iassumption
theorem start_all (c : Dev nD) : iprop(all4 (ready c) ∗ barPay c 0 ∗ barPay c 1) ⊢ (all4 (atStart c) : sProp 𝕄) := by
  unfold barPay
  iintro ⟨H, H0, H1⟩
  iapply (all4_mono (start_batch c))
  iapply (all4_join (ready c) _)
  isplitl [H]; · iexact H
  iapply (all4_join _ _)
  isplitl [H0] <;> iassumption

/-! ## The dues, from the end -/

abbrev due8 (c : Dev nD) : List Due := [dueB c 0 3, dueB c 1 3]
abbrev due7 (c : Dev nD) : List Due := dueB c 0 2 :: dueB c 1 2 :: due8 c
abbrev due6 (c : Dev nD) : List Due := dueA c 0 3 :: dueA c 1 3 :: due7 c
abbrev due5 (c : Dev nD) : List Due := dueB c 0 1 :: dueB c 1 1 :: due6 c
abbrev due4 (c : Dev nD) : List Due := dueA c 0 2 :: dueA c 1 2 :: due5 c
abbrev due3 (c : Dev nD) : List Due := dueB c 0 0 :: dueB c 1 0 :: due4 c
abbrev due2 (c : Dev nD) : List Due := dueA c 0 1 :: dueA c 1 1 :: due3 c
abbrev due1 (c : Dev nD) : List Due := dueA c 0 0 :: dueA c 1 0 :: due2 c

/-- Every due of the list is above level `n`. -/
def Above (n : ℕ) (l : List Due) : Prop := ∀ x ∈ l, n < lvS x.1.2

theorem above_A (c : Dev nD) (b : Fin 4) (n : ℕ) (h : n < 2 + 2 * b.val) (l : List Due) (hl : Above n l) : Above n (dueA c 0 b :: dueA c 1 b :: l) :=
  List.forall_mem_cons.mpr ⟨by show n < lvS (.dma (ro1 0 b)); rw [lv_ro1]; exact h,
    List.forall_mem_cons.mpr ⟨by show n < lvS (.dma (ro1 1 b)); rw [lv_ro1]; exact h, hl⟩⟩
theorem above_B (c : Dev nD) (b : Fin 4) (n : ℕ) (h : n < 5 + 2 * b.val) (l : List Due) (hl : Above n l) : Above n (dueB c 0 b :: dueB c 1 b :: l) :=
  List.forall_mem_cons.mpr ⟨by show n < lvS (.dma (ro2 0 b)); rw [lv_ro2]; exact h,
    List.forall_mem_cons.mpr ⟨by show n < lvS (.dma (ro2 1 b)); rw [lv_ro2]; exact h, hl⟩⟩
theorem above_nil (n : ℕ) : Above n [] := fun _ h => absurd h List.not_mem_nil
theorem above8 (c : Dev nD) (n : ℕ) (h : n < 11) : Above n (due8 c) := above_B c 3 n h [] (above_nil n)
theorem above7 (c : Dev nD) (n : ℕ) (h : n < 9) : Above n (due7 c) := above_B c 2 n h _ (above8 c n (by omega))
theorem above6 (c : Dev nD) (n : ℕ) (h : n < 8) : Above n (due6 c) := above_A c 3 n h _ (above7 c n (by omega))
theorem above5 (c : Dev nD) (n : ℕ) (h : n < 7) : Above n (due5 c) := above_B c 1 n h _ (above6 c n (by omega))
theorem above4 (c : Dev nD) (n : ℕ) (h : n < 6) : Above n (due4 c) := above_A c 2 n h _ (above5 c n (by omega))
theorem above3 (c : Dev nD) (n : ℕ) (h : n < 5) : Above n (due3 c) := above_B c 0 n h _ (above4 c n (by omega))
theorem above2 (c : Dev nD) (n : ℕ) (h : n < 4) : Above n (due2 c) := above_A c 1 n h _ (above3 c n (by omega))
theorem above1 (c : Dev nD) (n : ℕ) (h : n < 2) : Above n (due1 c) := above_A c 0 n h _ (above2 c n (by omega))

/-! ## The devices the body names -/

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = nxt c := Fin.ext (k0_dev3_eq c)
theorem dev4 (c : Dev nD) : (⟨k0_dev4 c, k0_dev4_lt c⟩ : Dev nD) = prv c := Fin.ext (k0_dev4_eq c)
theorem dev5 (c : Dev nD) : (⟨k0_dev5 c, k0_dev5_lt c⟩ : Dev nD) = nxt c := Fin.ext (k0_dev5_eq c)
theorem dev6 (c : Dev nD) : (⟨k0_dev6 c, k0_dev6_lt c⟩ : Dev nD) = prv c := Fin.ext (k0_dev6_eq c)
theorem dev7 (c : Dev nD) : (⟨k0_dev7 c, k0_dev7_lt c⟩ : Dev nD) = nxt c := Fin.ext (k0_dev7_eq c)
theorem dev8 (c : Dev nD) : (⟨k0_dev8 c, k0_dev8_lt c⟩ : Dev nD) = prv c := Fin.ext (k0_dev8_eq c)
theorem dev9 (c : Dev nD) : (⟨k0_dev9 c, k0_dev9_lt c⟩ : Dev nD) = nxt c := Fin.ext (k0_dev9_eq c)
theorem dev10 (c : Dev nD) : (⟨k0_dev10 c, k0_dev10_lt c⟩ : Dev nD) = prv c := Fin.ext (k0_dev10_eq c)
theorem dev11 (c : Dev nD) : (⟨k0_dev11 c, k0_dev11_lt c⟩ : Dev nD) = nxt c := Fin.ext (k0_dev11_eq c)
theorem dev12 (c : Dev nD) : (⟨k0_dev12 c, k0_dev12_lt c⟩ : Dev nD) = prv c := Fin.ext (k0_dev12_eq c)
theorem dev13 (c : Dev nD) : (⟨k0_dev13 c, k0_dev13_lt c⟩ : Dev nD) = nxt c := Fin.ext (k0_dev13_eq c)
theorem dev14 (c : Dev nD) : (⟨k0_dev14 c, k0_dev14_lt c⟩ : Dev nD) = prv c := Fin.ext (k0_dev14_eq c)
theorem dev15 (c : Dev nD) : (⟨k0_dev15 c, k0_dev15_lt c⟩ : Dev nD) = nxt c := Fin.ext (k0_dev15_eq c)
theorem dev16 (c : Dev nD) : (⟨k0_dev16 c, k0_dev16_lt c⟩ : Dev nD) = prv c := Fin.ext (k0_dev16_eq c)
theorem dev17 (c : Dev nD) : (⟨k0_dev17 c, k0_dev17_lt c⟩ : Dev nD) = nxt c := Fin.ext (k0_dev17_eq c)
theorem dev18 (c : Dev nD) : (⟨k0_dev18 c, k0_dev18_lt c⟩ : Dev nD) = prv c := Fin.ext (k0_dev18_eq c)

/-! ## The body -/

/-- All four slots free. -/
def idles (c : Dev nD) : sProp 𝕄 := iprop(Idle m c 0 ∗ Idle m c 1 ∗ Idle m c 2 ∗ Idle m c 3)

set_option maxHeartbeats 2000000 in
theorem body_run (c : Dev nD) :
    iprop(Ctx m K ∗ barIn c ∗ idles m c ∗ qPts m c ∗ all4 (own c) ∗ all4 (ready c) ∗ Out m c 0 ∗ Ow c (dues c))
      ⊢ wpS c prog fun _ => iprop(idles m c ∗ qPts m c ∗ all4 (back c) ∗ semVal (barCell c) 0 ∗ Out m c 32 ∗ Ow c []) := by
  unfold barIn prog
  simp only [wpS, Prog.lift, Prog.bind_op, Prog.bind_ret, wp_deviceId]
  iintro ⟨#HC, ⟨HatB, HcB, Htt, Htf⟩, HI, HQ, Hown, Hrd, HOut, HO⟩
  ihave Hown := (own_all m c) $$ Hown
  icases Hown with ⟨HM, Hgl, Hgr⟩
  iapply (run (handshake_spec m K c _ _ (dev1 c) (dev2 c) (due1 c) (above1 c 1 (by decide)))) $$ [HatB HcB Htt Htf Hgl Hgr HO]
  · isplitr; · iexact HC
    isplitl [HatB]; · iexact HatB
    isplitl [HcB]; · iexact HcB
    isplitl [Htt]; · iexact Htt
    isplitl [Htf]; · iexact Htf
    isplitl [Hgl]; · iexact Hgl
    isplitl [Hgr] <;> iassumption
  iintro ⟨Hz0, Hz1, HvB, HO⟩
  ihave HS := (start_all c) $$ [Hrd Hz0 Hz1]
  · isplitl [Hrd]; · iexact Hrd
    isplitl [Hz0] <;> iassumption
  unfold all4 idles
  icases HS with ⟨HS0, HS1, HS2, HS3⟩
  icases HM with ⟨HM0, HM1, HM2, HM3⟩
  icases HI with ⟨HI0, HI1, HI2, HI3⟩
  iapply (run (show Idle m c 0 ⊢ wpS c (fetch 0) fun _ => Fly m c 0 from fetch_spec m c 0)) $$ HI0
  iintro HI0
  iapply (run (show Idle m c 1 ⊢ wpS c (fetch 1) fun _ => Fly m c 1 from fetch_spec m c 1)) $$ HI1
  iintro HI1
  iapply (run (show Idle m c 2 ⊢ wpS c (fetch 2) fun _ => Fly m c 2 from fetch_spec m c 2)) $$ HI2
  iintro HI2
  ihave HR := (show iprop(Fly m c 0 ∗ Fly m c 1 ∗ Fly m c 2 ∗ Idle m c 3) ⊢ Ring m c 0 from by
    unfold Ring Slot; rw [if_pos (by decide), if_pos (by decide), if_pos (by decide)]; exact .rfl) $$ [HI0 HI1 HI2 HI3]
  · isplitl [HI0]; · iexact HI0
    isplitl [HI1]; · iexact HI1
    isplitl [HI2] <;> iassumption
  iapply (run (batch_spec m K c 0 0 8 rfl rfl (due1 c) (above1 c 0 (by decide)))) $$ [HR HQ HM0 HO]
  · isplitr; · iexact HC
    isplitl [HR]; · iexact HR
    isplitl [HQ]; · iexact HQ
    isplitl [HM0] <;> iassumption
  iintro ⟨HR, HQ, HM0, HO⟩
  iapply (run2 (hop1s_spec m K c _ _ 0 (dev3 c) (dev4 c) (due2 c))) $$ [HS0 HM0 HO]
  · isplitr; · iexact HC
    isplitl [HS0]; · iexact HS0
    isplitl [HM0] <;> iassumption
  iintro ⟨HS0, HO⟩
  iapply (run (batch_spec m K c 1 8 16 rfl rfl (due2 c) (above2 c 0 (by decide)))) $$ [HR HQ HM1 HO]
  · isplitr; · iexact HC
    isplitl [HR]; · iexact HR
    isplitl [HQ]; · iexact HQ
    isplitl [HM1] <;> iassumption
  iintro ⟨HR, HQ, HM1, HO⟩
  iapply (run2 (hop1s_spec m K c _ _ 1 (dev5 c) (dev6 c) (due3 c))) $$ [HS1 HM1 HO]
  · isplitr; · iexact HC
    isplitl [HS1]; · iexact HS1
    isplitl [HM1] <;> iassumption
  iintro ⟨HS1, HO⟩
  iapply (run (recv1_spec m K c 0 (due3 c) (above3 c 2 (by decide)))) $$ [HS0 HO]
  · isplitr; · iexact HC
    isplitl [HS0] <;> iassumption
  iintro ⟨HS0, HO⟩
  iapply (run2 (hop2s_spec m K c _ _ 0 (dev7 c) (dev8 c) (due4 c))) $$ [HS0 HO]
  · isplitr; · iexact HC
    isplitl [HS0] <;> iassumption
  iintro ⟨HS0, HO⟩
  iapply (run (batch_spec m K c 2 16 24 rfl rfl (due4 c) (above4 c 0 (by decide)))) $$ [HR HQ HM2 HO]
  · isplitr; · iexact HC
    isplitl [HR]; · iexact HR
    isplitl [HQ]; · iexact HQ
    isplitl [HM2] <;> iassumption
  iintro ⟨HR, HQ, HM2, HO⟩
  iapply (run2 (hop1s_spec m K c _ _ 2 (dev9 c) (dev10 c) (due5 c))) $$ [HS2 HM2 HO]
  · isplitr; · iexact HC
    isplitl [HS2]; · iexact HS2
    isplitl [HM2] <;> iassumption
  iintro ⟨HS2, HO⟩
  iapply (run (recv1_spec m K c 1 (due5 c) (above5 c 4 (by decide)))) $$ [HS1 HO]
  · isplitr; · iexact HC
    isplitl [HS1] <;> iassumption
  iintro ⟨HS1, HO⟩
  iapply (run2 (hop2s_spec m K c _ _ 1 (dev11 c) (dev12 c) (due6 c))) $$ [HS1 HO]
  · isplitr; · iexact HC
    isplitl [HS1] <;> iassumption
  iintro ⟨HS1, HO⟩
  iapply (run (recv2_spec m K c 0 (due6 c) (above6 c 5 (by decide)))) $$ [HS0 HO]
  · isplitr; · iexact HC
    isplitl [HS0] <;> iassumption
  iintro ⟨HS0, HO⟩
  iapply (run (combs_spec m c 0 0 8 rfl rfl)) $$ [HS0 HOut]
  · isplitl [HS0] <;> iassumption
  iintro ⟨HS0, HOut⟩
  iapply (run (batch_spec m K c 3 24 32 rfl rfl (due6 c) (above6 c 0 (by decide)))) $$ [HR HQ HM3 HO]
  · isplitr; · iexact HC
    isplitl [HR]; · iexact HR
    isplitl [HQ]; · iexact HQ
    isplitl [HM3] <;> iassumption
  iintro ⟨HR, HQ, HM3, HO⟩
  iapply (run2 (hop1s_spec m K c _ _ 3 (dev13 c) (dev14 c) (due7 c))) $$ [HS3 HM3 HO]
  · isplitr; · iexact HC
    isplitl [HS3]; · iexact HS3
    isplitl [HM3] <;> iassumption
  iintro ⟨HS3, HO⟩
  iapply (run (recv1_spec m K c 2 (due7 c) (above7 c 6 (by decide)))) $$ [HS2 HO]
  · isplitr; · iexact HC
    isplitl [HS2] <;> iassumption
  iintro ⟨HS2, HO⟩
  iapply (run2 (hop2s_spec m K c _ _ 2 (dev15 c) (dev16 c) (due8 c))) $$ [HS2 HO]
  · isplitr; · iexact HC
    isplitl [HS2] <;> iassumption
  iintro ⟨HS2, HO⟩
  iapply (run (recv2_spec m K c 1 (due8 c) (above8 c 7 (by decide)))) $$ [HS1 HO]
  · isplitr; · iexact HC
    isplitl [HS1] <;> iassumption
  iintro ⟨HS1, HO⟩
  iapply (run (combs_spec m c 1 8 16 rfl rfl)) $$ [HS1 HOut]
  · isplitl [HS1] <;> iassumption
  iintro ⟨HS1, HOut⟩
  iapply (run (recv1_spec m K c 3 (due8 c) (above8 c 8 (by decide)))) $$ [HS3 HO]
  · isplitr; · iexact HC
    isplitl [HS3] <;> iassumption
  iintro ⟨HS3, HO⟩
  iapply (run2 (hop2s_spec m K c _ _ 3 (dev17 c) (dev18 c) [])) $$ [HS3 HO]
  · isplitr; · iexact HC
    isplitl [HS3] <;> iassumption
  iintro ⟨HS3, HO⟩
  iapply (run (recv2_spec m K c 2 [] (above_nil 9))) $$ [HS2 HO]
  · isplitr; · iexact HC
    isplitl [HS2] <;> iassumption
  iintro ⟨HS2, HO⟩
  iapply (run (combs_spec m c 2 16 24 rfl rfl)) $$ [HS2 HOut]
  · isplitl [HS2] <;> iassumption
  iintro ⟨HS2, HOut⟩
  iapply (run (recv2_spec m K c 3 [] (above_nil 11))) $$ [HS3 HO]
  · isplitr; · iexact HC
    isplitl [HS3] <;> iassumption
  iintro ⟨HS3, HO⟩
  iapply (run (combs_spec m c 3 24 32 rfl rfl)) $$ [HS3 HOut]
  · isplitl [HS3] <;> iassumption
  iintro ⟨HS3, HOut⟩
  iapply (run (sent_spec m K c 0)) $$ [HS0 HO]
  · isplitr; · iexact HC
    isplitl [HS0] <;> iassumption
  iintro ⟨HS0, HO⟩
  iapply (run (sent_spec m K c 1)) $$ [HS1 HO]
  · isplitr; · iexact HC
    isplitl [HS1] <;> iassumption
  iintro ⟨HS1, HO⟩
  iapply (run (sent_spec m K c 2)) $$ [HS2 HO]
  · isplitr; · iexact HC
    isplitl [HS2] <;> iassumption
  iintro ⟨HS2, HO⟩
  iapply (runLast (sent_spec m K c 3)) $$ [HS3 HO]
  · isplitr; · iexact HC
    isplitl [HS3] <;> iassumption
  iintro ⟨HS3, HO⟩
  ihave HR := (show Ring m c 32 ⊢ iprop(Idle m c 0 ∗ Idle m c 1 ∗ Idle m c 2 ∗ Idle m c 3) from by
    unfold Ring Slot; rw [if_neg (by decide), if_neg (by decide), if_neg (by decide)]; exact .rfl) $$ HR
  isplitl [HR]; · iexact HR
  isplitl [HQ]; · iexact HQ
  isplitl [HS0 HS1 HS2 HS3]
  · isplitl [HS0]; · iexact HS0
    isplitl [HS1]; · iexact HS1
    isplitl [HS2] <;> iassumption
  isplitl [HvB]; · iexact HvB
  isplitl [HOut] <;> iassumption

end Cert.KernelIdeal.Attn

end
-- ==== Proof.KernelIdeal.Deal.lean ====
/-
What the launch deals one device, regrouped into what the body starts from, and what the body leaves, regrouped into what
the launch takes back.
-/
module

public import proofs.«01_k».proof.Proof.KernelIdeal.Body
public import proofs.«01_k».proof.Proof.Gen.KernelIdeal.Launch

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 33 → ℕ)

/-! ## Whole buffers and their parts -/

section Parts
variable {ℓ : Loc nD τ sig} {T : Type} [Fintype T] [DecidableEq T] [Inhabited T] (S : T → Finset (Idx ℓ))

/-- A whole buffer at some contents is its parts, each at some contents; -/
theorem parts_split (hd : ∀ t t', t ≠ t' → Disjoint (S t) (S t')) (hc : Finset.univ.biUnion S = Finset.univ) :
    (iprop(∃ f : Buf (Elt F) ℓ, ℓ ↦{fullShare} f) : sProp 𝕄) ⊢ bigSep Finset.univ fun t => iprop(∃ f : Buf (Elt F) ℓ, ℓ ↦[S t]{fullShare} f) := by
  iintro ⟨%f, H⟩
  ihave H := (show (ℓ ↦{fullShare} f : sProp 𝕄) ⊢ bigSep Finset.univ fun t => iprop(∃ f : Buf (Elt F) ℓ, ℓ ↦[S t]{fullShare} f) from by
    rw [← hc, pointsTo_biUnion Finset.univ S fun t _ t' _ h => hd t t' h]
    exact bigSep_mono fun t _ => show (ℓ ↦[S t]{fullShare} f : sProp 𝕄) ⊢ iprop(∃ f : Buf (Elt F) ℓ, ℓ ↦[S t]{fullShare} f) by iintro H; iexists f; iexact H) $$ H
  iexact H

/-- and the parts are the whole again. -/
theorem parts_join (hd : ∀ t t', t ≠ t' → Disjoint (S t) (S t')) (hc : Finset.univ.biUnion S = Finset.univ) :
    (bigSep Finset.univ fun t => iprop(∃ f : Buf (Elt F) ℓ, ℓ ↦[S t]{fullShare} f)) ⊢ (iprop(∃ f : Buf (Elt F) ℓ, ℓ ↦{fullShare} f) : sProp 𝕄) := by
  iintro H
  ihave H := (BI.bigSep_exists_pi Finset.univ (fun t (f : Buf (Elt F) ℓ) => (ℓ ↦[S t]{fullShare} f : sProp 𝕄))) $$ H
  icases H with ⟨%fs, H⟩
  ihave H := (pointsTo_biUnion_join Finset.univ S fs (fs default) fun t _ t' _ h => hd t t' h) $$ H
  icases H with ⟨%g, -, H⟩
  ihave H := (Entails.of_eq (show (ℓ ↦[Finset.univ.biUnion S]{fullShare} g : sProp 𝕄) = ℓ ↦{fullShare} g by rw [hc])) $$ H
  iexists g; iexact H
end Parts

theorem all4_eq (P : Fin 4 → sProp 𝕄) : bigSep Finset.univ P = all4 P :=
  bigSep_univ_eq_bigSepL [0, 1, 2, 3] (by decide) (by decide) P

/-- A buffer at a full share is the buffer at its four quarter shares. -/
theorem quarters {ℓ : Loc nD τ sig} (f : Buf (Elt F) ℓ) : (ℓ ↦{fullShare} f : sProp 𝕄) ⊣⊢ all4 fun s => iprop(ℓ ↦{qs s} f) := by
  constructor
  · unfold all4
    iintro H
    ihave H := (pointsTo_share (PosShare.mem_left_op_right fullShare)).1 $$ H
    icases H with ⟨H1, H2⟩
    ihave H1 := (pointsTo_share (PosShare.mem_left_op_right fullShare.left)).1 $$ H1
    ihave H2 := (pointsTo_share (PosShare.mem_left_op_right fullShare.right)).1 $$ H2
    icases H1 with ⟨H0, H1⟩
    icases H2 with ⟨H2, H3⟩
    isplitl [H0]; · iexact H0
    isplitl [H1]; · iexact H1
    isplitl [H2]; · iexact H2
    iexact H3
  · unfold all4
    iintro ⟨H0, H1, H2, H3⟩
    iapply (pointsTo_share (PosShare.mem_left_op_right fullShare)).2
    isplitl [H0 H1]
    · iapply (pointsTo_share (PosShare.mem_left_op_right fullShare.left)).2
      isplitl [H0]; · iexact H0
      iexact H1
    · iapply (pointsTo_share (PosShare.mem_left_op_right fullShare.right)).2
      isplitl [H2]; · iexact H2
      iexact H3

/-! ## The buffers of one device -/

theorem kslots (c : Dev nD) : (iprop(∃ f : Buf (Elt F) ((c : Thread nD τ).loc cc0_scratch0), ((c : Thread nD τ).loc cc0_scratch0) ↦{fullShare} f) : sProp 𝕄)
    ⊣⊢ all4 fun s => iprop(∃ f, slotPts kbM c s f) := by
  have e : (all4 fun s => iprop(∃ f, slotPts kbM c s f) : sProp 𝕄)
      = bigSep Finset.univ fun s => iprop(∃ f : Buf (Elt F) ((c : Thread nD τ).loc cc0_scratch0), ((c : Thread nD τ).loc cc0_scratch0) ↦[slotSet s]{fullShare} f) := by
    rw [← all4_eq]; exact bigSep_congr fun s _ => by unfold slotPts; rw [set_kslot]
  rw [e]
  constructor
  · exact parts_split (ℓ := (c : Thread nD τ).loc cc0_scratch0) (T := Fin 4) slotSet (fun _ _ h => slotSet_disjoint h) slotSet_cover
  · exact parts_join (ℓ := (c : Thread nD τ).loc cc0_scratch0) (T := Fin 4) slotSet (fun _ _ h => slotSet_disjoint h) slotSet_cover

theorem vslots (c : Dev nD) : (iprop(∃ f : Buf (Elt F) ((c : Thread nD τ).loc cc0_scratch1), ((c : Thread nD τ).loc cc0_scratch1) ↦{fullShare} f) : sProp 𝕄)
    ⊣⊢ all4 fun s => iprop(∃ f, slotPts vbM c s f) := by
  have e : (all4 fun s => iprop(∃ f, slotPts vbM c s f) : sProp 𝕄)
      = bigSep Finset.univ fun s => iprop(∃ f : Buf (Elt F) ((c : Thread nD τ).loc cc0_scratch1), ((c : Thread nD τ).loc cc0_scratch1) ↦[slotSet s]{fullShare} f) := by
    rw [← all4_eq]; exact bigSep_congr fun s _ => by unfold slotPts; rw [set_vslot]
  rw [e]
  constructor
  · exact parts_split (ℓ := (c : Thread nD τ).loc cc0_scratch1) (T := Fin 4) slotSet (fun _ _ h => slotSet_disjoint h) slotSet_cover
  · exact parts_join (ℓ := (c : Thread nD τ).loc cc0_scratch1) (T := Fin 4) slotSet (fun _ _ h => slotSet_disjoint h) slotSet_cover

theorem oparts (c : Dev nD) : (iprop(∃ f : Buf (Elt F) ((c : Thread nD τ).loc cc0_scratch4), ((c : Thread nD τ).loc cc0_scratch4) ↦{fullShare} f) : sProp 𝕄)
    ⊣⊢ all4 (own c) := by
  have e : (all4 (own c) : sProp 𝕄)
      = bigSep Finset.univ fun p : Fin 4 × Fin 4 => iprop(∃ f : Buf (Elt F) ((c : Thread nD τ).loc cc0_scratch4), ((c : Thread nD τ).loc cc0_scratch4) ↦[regA p.2 p.1]{fullShare} f) := by
    rw [bigSep_univ_prod, ← all4_eq]; exact bigSep_congr fun b _ => by rw [all4_eq]; rfl
  have hd : ∀ p p' : Fin 4 × Fin 4, p ≠ p' → Disjoint (regA p.2 p.1) (regA p'.2 p'.1) :=
    fun p p' h => regA_disjoint (p := (p.2, p.1)) (p' := (p'.2, p'.1)) fun h' => h (Prod.ext (congrArg Prod.snd h') (congrArg Prod.fst h'))
  have hc : (Finset.univ : Finset (Fin 4 × Fin 4)).biUnion (fun p => regA p.2 p.1) = Finset.univ :=
    Finset.eq_univ_of_forall fun i => by
      obtain ⟨p, -, hp⟩ := Finset.mem_biUnion.mp (regA_cover.symm ▸ Finset.mem_univ i)
      exact Finset.mem_biUnion.mpr ⟨(p.2, p.1), Finset.mem_univ _, hp⟩
  rw [e]
  exact ⟨parts_split _ hd hc, parts_join _ hd hc⟩

/-! ## The slots, their semaphores and the shares of the two arrays -/

/-- The fetches' semaphores at zero. -/
def fetchSems (c : Dev nD) : sProp 𝕄 := iprop(all4 (fun s => zeroOf c (kS s)) ∗ all4 fun s => zeroOf c (vS s))
/-- The two arrays a device reads by copies, at what the launch left there. -/
def args (c : Dev nD) : sProp 𝕄 :=
  iprop((((c : Thread nD τ).loc main_arg1) ↦{fullShare} (xk m c : Buf (Elt F) ((c : Thread nD τ).loc main_arg1)))
    ∗ (((c : Thread nD τ).loc main_arg2) ↦{fullShare} (xv m c : Buf (Elt F) ((c : Thread nD τ).loc main_arg2))))
/-- A scratch buffer whole. -/
def scr (c : Dev nD) (b : Ref sig .tc) : sProp 𝕄 := iprop(∃ f : Buf (Elt F) ((c : Thread nD τ).loc b), ((c : Thread nD τ).loc b) ↦{fullShare} f)

theorem all4_three (P Q R : Fin 4 → sProp 𝕄) : iprop(all4 P ∗ all4 Q ∗ all4 R) ⊣⊢ all4 fun s => iprop(P s ∗ Q s ∗ R s) := by
  constructor
  · iintro ⟨H1, H2⟩
    iapply (all4_join P _)
    isplitl [H1]; · iexact H1
    iapply (all4_join Q R); iexact H2
  · iintro H
    ihave H := (all4_sep P _) $$ H
    icases H with ⟨H1, H2⟩
    isplitl [H1]; · iexact H1
    iapply (all4_sep Q R); iexact H2

theorem idles_split (c : Dev nD) : (iprop(scr c cc0_scratch0 ∗ scr c cc0_scratch1 ∗ args m c ∗ fetchSems c) : sProp 𝕄) ⊣⊢ idles m c := by
  have e : (idles m c : sProp 𝕄) = all4 fun s => iprop(Idle1 kM kbM (kS s) c (qs s) (xk m c) s ∗ Idle1 vM vbM (vS s) c (qs s) (xv m c) s) := rfl
  rw [e]
  constructor
  · unfold args fetchSems scr
    iintro ⟨H0, H1, ⟨HK, HV⟩, Hk, Hv⟩
    iapply (all4_join _ _)
    ihave H0 := (kslots c).1 $$ H0
    ihave H1 := (vslots c).1 $$ H1
    ihave HK := (quarters _).1 $$ HK
    ihave HV := (quarters _).1 $$ HV
    isplitl [H0 HK Hk]
    · iapply (all4_three _ _ _).1
      isplitl [H0]; · iexact H0
      isplitl [Hk]; · iexact Hk
      iexact HK
    · iapply (all4_three _ _ _).1
      isplitl [H1]; · iexact H1
      isplitl [Hv]; · iexact Hv
      iexact HV
  · unfold args fetchSems scr
    iintro H
    ihave H := (all4_sep _ _) $$ H
    icases H with ⟨HK, HV⟩
    ihave HK := (show all4 (fun s => Idle1 kM kbM (kS s) c (qs s) (xk m c) s) ⊢ _ from
      (all4_three (fun s => iprop(∃ f, slotPts kbM c s f)) (fun s => zeroOf c (kS s)) (fun s => iprop(((c : Thread nD τ).loc main_arg1) ↦{qs s} xk m c))).2) $$ HK
    ihave HV := (show all4 (fun s => Idle1 vM vbM (vS s) c (qs s) (xv m c) s) ⊢ _ from
      (all4_three (fun s => iprop(∃ f, slotPts vbM c s f)) (fun s => zeroOf c (vS s)) (fun s => iprop(((c : Thread nD τ).loc main_arg2) ↦{qs s} xv m c))).2) $$ HV
    icases HK with ⟨H0, Hk, HK⟩
    icases HV with ⟨H1, Hv, HV⟩
    isplitl [H0]; · iapply (kslots c).2; iexact H0
    isplitl [H1]; · iapply (vslots c).2; iexact H1
    isplitl [HK HV]
    · isplitl [HK]
      · iapply (quarters _).2; iexact HK
      · iapply (quarters _).2; iexact HV
    isplitl [Hk] <;> iassumption

/-! ## The cells, batch by batch -/

/-- The copies' semaphores: of a batch, of a kind, of a direction. -/
def semOf (x : Fin 4 × Fin 4 × Fin 2) : DmaSem sig := (![so1, ro1, so2, ro2] x.2.1) x.2.2 x.1
/-- One thing of each copy's semaphore of a batch. -/
def batch (P : DmaSem sig → sProp 𝕄) (b : Fin 4) : sProp 𝕄 :=
  iprop((P (so1 0 b) ∗ P (so1 1 b)) ∗ (P (ro1 0 b) ∗ P (ro1 1 b)) ∗ (P (so2 0 b) ∗ P (so2 1 b)) ∗ (P (ro2 0 b) ∗ P (ro2 1 b)))

theorem two_eq (P : Fin 2 → sProp 𝕄) : bigSep Finset.univ P = iprop(P 0 ∗ P 1) :=
  bigSep_univ_eq_bigSepL [0, 1] (by decide) (by decide) P

theorem batches_eq (P : DmaSem sig → sProp 𝕄) : (bigSep Finset.univ fun x => P (semOf x)) = all4 (batch P) := by
  rw [bigSep_univ_prod, ← all4_eq]
  refine bigSep_congr fun b _ => ?_
  rw [bigSep_univ_prod, bigSep_congr (s := Finset.univ) (fun k _ => two_eq fun d : Fin 2 => P (semOf (b, k, d))), all4_eq]
  rfl

theorem semOf_ge (x : Fin 4 × Fin 4 × Fin 2) : 10 ≤ (semOf x).val := by revert x; decide

/-- The numbering of the cells: the barrier first, then the copies'. -/
def number : Unit ⊕ (Fin 4 × Fin 4 × Fin 2) → Fin 33 := Sum.elim (fun _ => 0) fun x => kix (semOf x)
theorem number_bij : Function.Bijective number := by decide +kernel

theorem cells_eq (P : Fin 33 → sProp 𝕄) : bigSep Finset.univ P = iprop(P 0 ∗ all4 (batch fun q => P (kix q))) := by
  rw [← batches_eq, bigSep_univ_equiv (Equiv.ofBijective number number_bij) P, bigSep_univ_sum, Finset.univ_unique, bigSep_singleton]
  rfl

theorem batch_mono {P Q : DmaSem sig → sProp 𝕄} (h : ∀ x, P (semOf x) ⊢ Q (semOf x)) : all4 (batch P) ⊢ all4 (batch Q) := by
  rw [← batches_eq, ← batches_eq]; exact bigSep_mono fun x _ => h x

/-- One thing of every cell of a device, the barrier's and each copy's. -/
theorem kcells_eq (P : SemLoc sig → sProp 𝕄) : (bigSep Finset.univ fun k : Fin 33 => P (csem k)) = iprop(P (.reg barS) ∗ all4 (batch fun q => P (.dma q))) := by
  rw [cells_eq, csem_zero, ← batches_eq, ← batches_eq]
  exact congrArg (fun R => iprop(P (.reg barS) ∗ R)) (bigSep_congr fun x _ => by rw [csem_kix _ (semOf_ge x)])

end Cert.KernelIdeal.Attn

end
-- ==== Proof.KernelIdeal.Launch.lean ====
/-
The launch: the cells' ghost state, its tokens dealt around the ring, the credits, and the run of the whole program.
-/
module

public import proofs.«01_k».proof.Proof.KernelIdeal.Deal
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 33 → ℕ)
variable (ρ : Dev nD → PrngReg)

/-! ## The semaphores -/

/-- The kernel's own semaphores: the copies', then the fetches'. -/
def osem : (Fin 4 × Fin 4 × Fin 2) ⊕ (Fin 2 × Fin 4) → SemLoc sig :=
  Sum.elim (fun x => .dma (semOf x)) fun x => .dma ((![kS, vS] x.1) x.2)

theorem ownSemFacts : Pipeline.OwnSemFacts cfg0.spec osem := by decide +kernel

abbrev ownSems (c : Dev nD) : sProp 𝕄 := Pipeline.ownSems0 (Ix := Unit) (Name := ℕ) (U := UU) (Lvl := ℕ) (Val := Elt F) (τ := τ) osem c

theorem ownSems_eq (c : Dev nD) : (ownSems c : sProp 𝕄) = iprop(all4 (batch (zeroOf c)) ∗ fetchSems c) := by
  unfold ownSems Pipeline.ownSems0
  rw [bigSep_univ_sum, ← batches_eq]
  refine congrArg₂ (fun P Q : sProp 𝕄 => iprop(P ∗ Q)) rfl ?_
  rw [bigSep_univ_prod, two_eq, all4_eq, all4_eq]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ghost state of the cells -/

theorem csem_injective : Function.Injective csem := by decide +kernel
theorem kcell_injective : Function.Injective (kcell : Dev nD × Fin 33 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- Every cell's `false` token, and every barrier's `true` token. -/
def tokF : (Dev nD × Fin 33) ↪ GSem nD τ sig × ℕ × Bool := ⟨fun x => (kcell x, 0, false), fun _ _ h => kcell_injective (congrArg Prod.fst h)⟩
def tokT : Dev nD ↪ GSem nD τ sig × ℕ × Bool := ⟨fun c => (barCell c, 0, true), fun _ _ h => congrArg (fun x : GSem nD τ sig × ℕ × Bool => x.1.1.1) h⟩
def toksF : Finset (GSem nD τ sig × ℕ × Bool) := Finset.univ.map tokF
def toksT : Finset (GSem nD τ sig × ℕ × Bool) := Finset.univ.map tokT
theorem toks_disjoint : Disjoint toksF toksT := Finset.disjoint_left.mpr fun x hx hx' => by
  obtain ⟨y, -, rfl⟩ := Finset.mem_map.mp hx
  obtain ⟨z, -, hz⟩ := Finset.mem_map.mp hx'
  exact absurd (congrArg (fun x : GSem nD τ sig × ℕ × Bool => x.2.2) hz) (by show ¬ (true = false); decide)

def u₀ : UU :=
  (initOf (Pipeline.cells cfgs cellOf_inj) (Pipeline.launchToks cfgs cellOf_inj), (initOf ringCells (toksF ∪ toksT), 1))

/-- The tokens of a device's own cells. -/
def toks (c : Dev nD) : sProp 𝕄 := iprop((bigSep Finset.univ fun k : Fin 33 => dutyTok ER (kcell (c, k)) 0 false) ∗ dutyTok ER (barCell c) 0 true)

/-- What the launch deals a device. -/
def G (c : Dev nD) : sProp 𝕄 :=
  iprop((bigSep Finset.univ fun k : Fin 33 => roundState ER (rd m) (kcell (c, k)) 0)
    ∗ (bigSep Finset.univ fun k : Fin 33 => iprop(atPos ER (kcell (c, k)) 0 ∅ 0 ∗ reached ER (kcell (c, k)) 0)) ∗ toks c)

theorem fund_ring : BI.own (ER (initOf ringCells (toksF ∪ toksT))) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep (toksF ∪ toksT) (fun x => (dutyTok ER x.1 x.2.1 x.2.2 : sProp 𝕄)) = bigSep Finset.univ fun c : Dev nD => toks c := by
    rw [BI.bigSep_union toks_disjoint]
    unfold toksF toksT toks
    rw [bigSep_map, bigSep_map, bigSep_univ_prod, bigSep_sep']
    rfl
  iintro HX
  imod (Rounds.fund ER (rd m) ringCells (toksF ∪ toksT)) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems_split (c : Dev nD) :
    iprop(ownSems c ∗ unscopedSems0 c) ⊢ (iprop((bigSep Finset.univ fun k : Fin 33 => semVal (kcell (c, k)) 0) ∗ fetchSems c) : sProp 𝕄) := by
  rw [ownSems_eq, unscopedSems0_eq, kcells_eq fun sm => (semVal ((c : Thread nD τ), sm) 0 : sProp 𝕄)]
  iintro ⟨⟨HS, HV⟩, HB⟩
  isplitr [HV]
  · isplitl [HB]; · iexact HB
    iexact HS
  · iexact HV

theorem core_alloc (c : Dev nD) :
    iprop(ownSems c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ fetchSems c) := by
  unfold G
  iintro ⟨Hos, Hus, Hst, Hat, Htok⟩
  ihave Hv := (sems_split (F := F) c) $$ [Hos Hus]
  · isplitl [Hos] <;> iassumption
  icases Hv with ⟨Hv, Hf⟩
  imod (show iprop((bigSep Finset.univ fun k : Fin 33 => semVal (kcell (c, k)) 0) ∗ bigSep Finset.univ fun k : Fin 33 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens around the ring -/

/-- The tokens of the copies a device starts in one batch. -/
def sends (c : Dev nD) (b : Fin 4) : sProp 𝕄 := iprop(tokA c 0 b ∗ tokA c 1 b ∗ tokB c 0 b ∗ tokB c 1 b)
/-- The tokens a device pays with. -/
def payToks (c : Dev nD) : sProp 𝕄 :=
  iprop((dutyTok ER (barCell (prv c)) 0 true ∗ dutyTok ER (barCell (nxt c)) 0 false) ∗ all4 (sends c))

theorem bigSep_all4 (S : Finset (Dev nD)) (P : Dev nD → Fin 4 → sProp 𝕄) : (bigSep S fun c => all4 (P c)) = all4 fun b => bigSep S fun c => P c b := by
  unfold all4; rw [bigSep_sep', bigSep_sep', bigSep_sep']

theorem sends_around (b : Fin 4) :
    (bigSep Finset.univ fun c : Dev nD => batch (fun q => dutyTok ER (dmaCell c q) 0 false) b) ⊢ (bigSep Finset.univ fun c : Dev nD => sends c b : sProp 𝕄) := by
  unfold batch sends tokA tokB
  simp only [bigSep_sep']
  rw [bigSep_univ_equiv ring (fun c : Dev nD => (dutyTok ER (dmaCell c (ro1 0 b)) 0 false : sProp 𝕄)),
    bigSep_univ_equiv ring.symm (fun c : Dev nD => (dutyTok ER (dmaCell c (ro1 1 b)) 0 false : sProp 𝕄)),
    bigSep_univ_equiv ring (fun c : Dev nD => (dutyTok ER (dmaCell c (ro2 0 b)) 0 false : sProp 𝕄)),
    bigSep_univ_equiv ring.symm (fun c : Dev nD => (dutyTok ER (dmaCell c (ro2 1 b)) 0 false : sProp 𝕄))]
  iintro ⟨⟨A0, A1⟩, ⟨B0, B1⟩, ⟨C0, C1⟩, D0, D1⟩
  isplitl [A0 B0]; · isplitl [A0]; · iexact A0
                     iexact B0
  isplitl [A1 B1]; · isplitl [A1]; · iexact A1
                     iexact B1
  isplitl [C0 D0]; · isplitl [C0]; · iexact C0
                     iexact D0
  isplitl [C1]; · iexact C1
  iexact D1

theorem toks_eq (c : Dev nD) : (toks c : sProp 𝕄) = iprop((dutyTok ER (barCell c) 0 false ∗ all4 (batch fun q => dutyTok ER (dmaCell c q) 0 false)) ∗ dutyTok ER (barCell c) 0 true) := by
  unfold toks; rw [kcells_eq fun sm => (dutyTok ER ((c : Thread nD τ), sm) 0 false : sProp 𝕄)]

theorem toks_around : (bigSep Finset.univ fun c : Dev nD => (toks c : sProp 𝕄)) ⊢ bigSep Finset.univ fun c : Dev nD => payToks c := by
  simp only [toks_eq]; unfold payToks
  rw [bigSep_sep', bigSep_sep', bigSep_sep', bigSep_sep', bigSep_all4, bigSep_all4,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3⟩
  isplitl [H1 H3]
  · isplitl [H3]; · iexact H3
    iexact H1
  · iapply (all4_mono fun b => sends_around (F := F) b); iexact H2

/-- What stays with a device: its positions, the tokens it pays with, the fetches' semaphores. -/
def linear (c : Dev nD) : sProp 𝕄 := iprop((bigSep Finset.univ fun k : Fin 33 => atPos ER (kcell (c, k)) 0 ∅ 0) ∗ payToks c ∗ fetchSems c)
def G' (c : Dev nD) : sProp 𝕄 := iprop(∃ K, records m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ fetchSems c) : sProp 𝕄)
      ⊢ bigSep Finset.univ (G' m) := by
  rw [bigSep_sep', bigSep_sep', bigSep_sep', ← bigSep_univ_prod (fun ck : Dev nD × Fin 33 => iprop(∃ κ : ℕ, cellInv ER (rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok, Hf⟩
  ihave HK := (BI.bigSep_exists_pi Finset.univ (fun (ck : Dev nD × Fin 33) (κ : ℕ) => (cellInv ER (rd m) κ (kcell ck) : sProp 𝕄))) $$ HI
  icases HK with ⟨%K, #HI⟩
  ihave Htk := (toks_around (F := F)) $$ Htok
  iapply (with_persistent (R := records m K) (Φ := linear) fun c _ => show iprop(records m K ∗ linear c) ⊢ G' m c by
    unfold G'; iintro H; iexists K; iexact H)
  isplitr
  · unfold records; isplitl; · iexact HI
    iexact HR
  · unfold linear
    rw [bigSep_sep', bigSep_sep']
    isplitl [Hat]; · iexact Hat
    isplitl [Htk] <;> iassumption

/-- Every device's semaphores at once, made into the cells. -/
theorem glob : (bigSep Finset.univ fun c => iprop(ownSems c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

theorem owe_at (l : List Due) (c : Dev nD) (sm : SemLoc sig) :
    owe l ((c : Thread nD τ), sm) () = (l.map fun x => if x.1 = (c, sm) then x.2 else 0).sum := by
  induction l with
  | nil => rfl
  | cons x l ih =>
    rw [List.map_cons, List.sum_cons, ← ih]
    show owe l _ () + tallyAt _ () x.2 _ () = _
    rw [Nat.add_comm, tallyAt_apply]
    congr 1
    refine if_congr ⟨fun h => ?_, fun h => ⟨by rw [h], rfl⟩⟩ rfl rfl
    exact Prod.ext (congrArg (fun g : GSem nD τ sig => g.1.1) h.1).symm (congrArg Prod.snd h.1).symm

theorem sum_towards (d : Fin 2) (c : Dev nD) (n : ℕ) : ∑ e : Dev nD, (if tow d e = c then n else 0) = n := by
  have h : ∀ e, (tow d e = c) = (e = tow (1 - d) c) := fun e => by revert d e c; decide
  simp only [h, Finset.sum_ite_eq', Finset.mem_univ, if_true]

theorem ro1_iff (d d' : Fin 2) (b b' : Fin 4) : ro1 d b = ro1 d' b' ↔ (d = d' ∧ b = b') := by revert d d' b b'; decide
theorem ro2_iff (d d' : Fin 2) (b b' : Fin 4) : ro2 d b = ro2 d' b' ↔ (d = d' ∧ b = b') := by revert d d' b b'; decide
theorem ro12 (d d' : Fin 2) (b b' : Fin 4) : ¬ ro1 d b = ro2 d' b' := by revert d d' b b'; decide
theorem ro21 (d d' : Fin 2) (b b' : Fin 4) : ¬ ro2 d b = ro1 d' b' := fun h => ro12 _ _ _ _ h.symm

set_option maxHeartbeats 1000000 in
theorem owed_ro1 (e c : Dev nD) (d : Fin 2) (b : Fin 4) : O₀ e (dmaCell c (ro1 d b)) () = if tow d e = c then nAll else 0 := by
  unfold O₀; rw [owe_at]
  by_cases h : tow 0 e = c <;> by_cases h' : tow 1 e = c <;> fin_cases d <;> fin_cases b <;> simp [dues, Prod.mk.injEq, ro1_iff, ro21, h, h']
set_option maxHeartbeats 1000000 in
theorem owed_ro2 (e c : Dev nD) (d : Fin 2) (b : Fin 4) : O₀ e (dmaCell c (ro2 d b)) () = if tow d e = c then nB d else 0 := by
  unfold O₀; rw [owe_at]
  by_cases h : tow 0 e = c <;> by_cases h' : tow 1 e = c <;> fin_cases d <;> fin_cases b <;> simp [dues, Prod.mk.injEq, ro2_iff, ro12, h, h']
theorem owed_bar (e c : Dev nD) : O₀ e (barCell c) () = (if tow 1 e = c then 1 else 0) + (if tow 0 e = c then 1 else 0) := by
  unfold O₀; rw [owe_at, tow_zero, tow_one]
  by_cases h : prv e = c <;> by_cases h' : nxt e = c <;> simp [dues, Prod.mk.injEq, h, h']

theorem credit_at (sm : SemLoc sig) (c : Dev nD) (n : ℕ) (h : ∑ e : Dev nD, O₀ e ((c : Thread nD τ), sm) () = n) :
    (tallyOn ((c : Thread nD τ), sm) (launchCredit (Pipeline.owing O₀) 0 ((c : Thread nD τ), sm)) : CellTallies nD τ sig Unit) = tallyAt ((c : Thread nD τ), sm) () n := by
  unfold tallyAt; refine congrArg _ (Finsupp.ext fun u => ?_); cases u
  rw [Pipeline.launchCredit_owing, Finsupp.single_eq_same, h]

/-- The credits of the copies a device awaits in one batch. -/
def recvs (c : Dev nD) (b : Fin 4) : sProp 𝕄 :=
  iprop((cred (tallyAt (dmaCell c (ro1 0 b)) () nAll) ∗ cred (tallyAt (dmaCell c (ro1 1 b)) () nAll))
    ∗ (cred (tallyAt (dmaCell c (ro2 0 b)) () (nB 0)) ∗ cred (tallyAt (dmaCell c (ro2 1 b)) () (nB 1))))

theorem creds (c : Dev nD) :
    (Pipeline.launchCred O₀ c : sProp 𝕄) ⊢ iprop(cred (tallyAt (barCell c) () 2) ∗ all4 (recvs c)) := by
  unfold Pipeline.launchCred
  refine (bigSep_subset (t := Finset.univ.image csem) (Finset.subset_univ _)).trans ?_
  rw [bigSep_image_of_injOn (csem_injective.injOn),
    kcells_eq fun sm => (cred (tallyOn ((c : Thread nD τ), sm) (launchCredit (Pipeline.owing O₀) 0 ((c : Thread nD τ), sm))) : sProp 𝕄),
    credit_at (.reg barS) c 2 (by simp only [owed_bar, Finset.sum_add_distrib, sum_towards])]
  refine sep_mono_right (all4_mono fun b => ?_)
  unfold batch recvs
  have h1 : ∀ d : Fin 2, ∑ e : Dev nD, O₀ e (dmaCell c (ro1 d b)) () = nAll := fun d => by simp only [owed_ro1, sum_towards]
  have h2 : ∀ d : Fin 2, ∑ e : Dev nD, O₀ e (dmaCell c (ro2 d b)) () = nB d := fun d => by simp only [owed_ro2, sum_towards]
  beta_reduce
  rw [credit_at (.dma (ro1 0 b)) c _ (h1 0), credit_at (.dma (ro1 1 b)) c _ (h1 1), credit_at (.dma (ro2 0 b)) c _ (h2 0), credit_at (.dma (ro2 1 b)) c _ (h2 1)]
  iintro ⟨-, H1, -, H2⟩
  isplitl [H1] <;> iassumption

/-! ## What the body starts from -/

theorem ready_all (c : Dev nD) : iprop(all4 (sends c) ∗ all4 (batch (posOf c)) ∗ all4 (recvs c)) ⊢ (all4 (ready c) : sProp 𝕄) := by
  refine (all4_three _ _ _).1.trans (all4_mono fun b => ?_)
  unfold batch recvs ready sends left2 waitA waitB
  iintro ⟨Ht, ⟨Ha, ⟨Hb0, Hb1⟩, Hc, ⟨Hd0, Hd1⟩⟩, ⟨Hx0, Hx1⟩, ⟨Hy0, Hy1⟩⟩
  isplitl [Ht]; · iexact Ht
  isplitl [Ha]; · iexact Ha
  isplitl [Hb0 Hb1 Hx0 Hx1]
  · isplitl [Hb0 Hx0]
    · isplitl [Hb0] <;> iassumption
    · isplitl [Hb1] <;> iassumption
  isplitl [Hc]; · iexact Hc
  isplitl [Hd0 Hy0]
  · isplitl [Hd0] <;> iassumption
  · isplitl [Hd1] <;> iassumption

/-- The device's share of the launch, in what the body names. -/
theorem linear_start (c : Dev nD) : iprop(linear c ∗ cred (tallyAt (barCell c) () 2) ∗ all4 (recvs c)) ⊢ (iprop(barIn c ∗ all4 (ready c) ∗ fetchSems c) : sProp 𝕄) := by
  unfold linear payToks barIn
  rw [kcells_eq fun sm => (atPos ER ((c : Thread nD τ), sm) 0 ∅ 0 : sProp 𝕄)]
  iintro ⟨⟨⟨Hp, Hps⟩, ⟨⟨Ht, Hf⟩, Hs⟩, HF⟩, Hc, Hr⟩
  isplitl [Hp Ht Hf Hc]
  · isplitl [Hp]; · iexact Hp
    isplitl [Hc]; · iexact Hc
    isplitl [Ht] <;> iassumption
  isplitr [HF]
  · iapply (ready_all (F := F) c)
    isplitl [Hs]; · iexact Hs
    isplitl [Hps]; · iexact Hps
    iexact Hr
  · iexact HF

theorem back_split (c : Dev nD) : all4 (back c) ⊢ (iprop(all4 (own c) ∗ all4 (batch (zeroOf c))) : sProp 𝕄) :=
  all4_sep (own c) (batch (zeroOf c))

end Cert.KernelIdeal.Attn

end
-- ==== Proof.KernelIdeal.Run.lean ====
/-
The run of the whole program: the pipeline's data, the body's obligation, and what every run ends with.
-/
module

public import proofs.«01_k».proof.Proof.KernelIdeal.Launch
public import Idealize.ShloMosaic.Lib.Pipeline.CollectiveSegs

@[expose] public section

set_option maxRecDepth 16384

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation owing launchCred prefHeld unscopedRestP scopedRest cellsWaits arrRef)

variable {F : FTy → Type} [FloatOps F]

local notation "𝕄" => MT nD τ sig Unit (Elt F) ℕ UU ℕ

variable (m : (ℓ : Loc nD τ sig) → Buf (Elt F) ℓ) (K : Dev nD × Fin 33 → ℕ)
variable (ρ : Dev nD → PrngReg)

/-! ## The pipeline's data -/

def t₀ : Fin cfg0.N := t0_0
theorem fin_N (t : Fin cfg0.N) : t = t₀ := fin_N0 t

/-- The output of device `c`. -/
def outAt (c : Dev nD) : OutBuf F := fun i => outVal m c (i 0) (i 2) (ix2 (i 1) (i 3))

theorem written_all (c : Dev nD) (f : OutBuf F) (h : Written m c 32 f) : f = outAt m c := by
  funext i
  have hb : (i 0).val < 4 := (i 0).isLt
  have hh : (i 2).val < 8 := (i 2).isLt
  exact (congrArg f (eq_ix4 (i : S4x32x8x128.Idx))).trans (h (i 0) (i 2) (i 1) (i 3) (by omega))

theorem written_none (c : Dev nD) (f : OutBuf F) : Written m c 0 f := fun b h q d hn => absurd hn (Nat.not_lt_zero _)

/-- What a device's body starts from besides its buffers. -/
def start (c : Dev nD) : sProp 𝕄 :=
  iprop((∃ K, records m K ∗ linear c) ∗ (cred (tallyAt (barCell c) () 2) ∗ all4 (recvs c)) ∗ levAts L lv ∗ args m c)
/-- The scratch buffers. -/
def scrs (c : Dev nD) : sProp 𝕄 := iprop(scr c cc0_scratch0 ∗ scr c cc0_scratch1 ∗ scr c cc0_scratch4)
def Φ₀ (c : Dev nD) : sProp 𝕄 := iprop(start m c ∗ scrs c)
def Φ₁ (c : Dev nD) : sProp 𝕄 := iprop((semVal (barCell c) 0 ∗ args m c) ∗ (all4 (batch (zeroOf c)) ∗ fetchSems c) ∗ scrs c)

theorem oscr (c : Dev nD) : (scr c cc0_scratch4 : sProp 𝕄) ⊣⊢ all4 (own c) := oparts c
theorem scrs_eq (c : Dev nD) : (Pipeline.scopedRest cfg0.spec c : sProp 𝕄) = scrs c := scopedRest0_eq c
theorem args_eq (c : Dev nD) : (Pipeline.unscopedRestP Pipeline.Prefetch.none cfg0.spec c (fun b => m ((c : Thread nD τ).loc b)) : sProp 𝕄) = args m c :=
  (Pipeline.unscopedRestP_none _ c _).trans (unscopedRest0_eq c _)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xq m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_q (c : Dev nD) (d) : (dats m ρ 0 c).before (0 : Fin 2) t₀ d = xq m c := by
  unfold Dat.before; rw [if_pos (fetch_0 t₀)]; rfl

/-! ## The body's obligation -/

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt () t₀.succ ∗ stg c cc0_stg0_0 (xq m c) ∗ stg c cc0_stg1_0 (outAt m c))

theorem owes_in (c : Dev nD) : (dats m ρ 0 c).owesAt () t₀.castSucc ⊢ (Ow c (dues c) : sProp 𝕄) := by
  unfold Dat.owesAt Pipeline.owesWithin Ow
  rw [show (dats m ρ 0 c).owed t₀.castSucc = O₀ c from rfl]
  iintro ⟨%W, -, H⟩
  iexists W; iexact H
theorem owes_out (c : Dev nD) : Ow c [] ⊢ ((dats m ρ 0 c).owesAt () t₀.succ : sProp 𝕄) := by
  unfold Dat.owesAt Pipeline.owesWithin Ow
  rw [show (dats m ρ 0 c).owed t₀.succ = (0 : CellTallies nD τ sig Unit) from rfl]
  iintro ⟨%W, H⟩
  iexists W
  isplitr
  · ipureintro; exact fun _ _ => Or.inl trivial
  · iexact H

/-- What the body starts from, as its run names it; -/
theorem pre_body (c : Dev nD) : bodyPre m ρ c ⊢ iprop(∃ K, Ctx m K ∗ barIn c ∗ idles m c ∗ qPts m c ∗ all4 (own c) ∗ all4 (ready c) ∗ Out m c 0 ∗ Ow c (dues c)) := by
  unfold bodyPre Φ₀ start scrs Ctx
  iintro ⟨⟨⟨⟨%K, HR, Hl⟩, Hc, Hlev, Ha⟩, H0, H1, H4⟩, Ho, ⟨%dq, %fq, %hq, Hq⟩, ⟨%dx, %fx, -, Hx⟩⟩
  rw [before_q] at hq
  subst hq
  ihave Hs := (linear_start (F := F) c) $$ [Hl Hc]
  · isplitl [Hl] <;> iassumption
  icases Hs with ⟨Hb, Hr, Hf⟩
  iexists K
  isplitl [HR Hlev]; · isplitl [HR] <;> iassumption
  isplitl [Hb]; · iexact Hb
  isplitl [H0 H1 Ha Hf]
  · iapply (idles_split m c).1
    isplitl [H0]; · iexact H0
    isplitl [H1]; · iexact H1
    isplitl [Ha] <;> iassumption
  isplitl [Hq]; · unfold qPts; iexact Hq
  isplitl [H4]; · iapply (oscr (F := F) c).1; iexact H4
  isplitl [Hr]; · iexact Hr
  isplitl [Hx]
  · unfold Out; iexists fx
    isplitr; · ipureintro; exact written_none m c fx
    iexact Hx
  · iapply (owes_in m ρ c); iexact Ho

/-- and what its run leaves, as the launch names it. -/
theorem body_post (c : Dev nD) :
    iprop(idles m c ∗ qPts m c ∗ all4 (back c) ∗ semVal (barCell c) 0 ∗ Out m c 32 ∗ Ow c []) ⊢ bodyPost m ρ c := by
  unfold bodyPost Φ₁ scrs Out qPts
  iintro ⟨Hi, Hq, Hb, Hz, ⟨%f, %hf, Hx⟩, Ho⟩
  have hf' := written_all m c f hf
  subst hf'
  ihave Hi := (idles_split m c).2 $$ Hi
  icases Hi with ⟨H0, H1, Ha, Hf⟩
  ihave Hb := (back_split (F := F) c) $$ Hb
  icases Hb with ⟨H4, Hs⟩
  isplitl [Hz Ha Hs Hf H0 H1 H4]
  · isplitl [Hz Ha]; · isplitl [Hz] <;> iassumption
    isplitl [Hs Hf]; · isplitl [Hs] <;> iassumption
    isplitl [H0]; · iexact H0
    isplitl [H1]; · iexact H1
    iapply (oscr (F := F) c).2; iexact H4
  isplitl [Ho]; · iapply (owes_out m ρ c); iexact Ho
  isplitl [Hq]
  · iexists _; isplitr; · (ipureintro; rfl)
    iexact Hq
  · iexists _; isplitr; · (ipureintro; rfl)
    iexact Hx

theorem sound_body (c : Dev nD) : bodyPre m ρ c ⊢ wpS c prog fun _ => bodyPost m ρ c := by
  iintro H
  ihave H := (pre_body m ρ c) $$ H
  icases H with ⟨%K, H⟩
  iapply (runLast (body_run m K c)) $$ H
  iintro H
  iapply (body_post m ρ c); iexact H

set_option maxRecDepth 65536 in
theorem body_obligation (c : Dev nD) : BodyObligation (dats (F := F) m ρ 0 c) (defs₀ (F := F)) 𝒱₀ () Set.univ := fun t => by
  rw [fin_N t]
  rw [bigSep_W, bigSep_W]
  simp only [owns_stg]
  show bodyPre m ρ c ⊢ wp frame (wpE (defs₀ (F := F)) 𝒱₀ c none) Set.univ
    (cc0__fused_body (F := F) (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 (Memref.whole cc0_scratch4) (Memref.isWhole_whole _) cc0_scratch5 cc0_scratch6 cc0_scratch7 cc0_scratch8)
    (fun _ => bodyPost m ρ c)
  rw [body_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [args_eq]
  iintro ⟨Ha, Hlev, Hcr, -, HG⟩
  ihave Hc := (creds (F := F) c) $$ Hcr
  imodintro
  unfold start G'
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scrs_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scrs_eq,
    show (Pipeline.ownSems0 osem c : sProp 𝕄) = _ from ownSems_eq c, unscopedSems0_eq]
  unfold Φ₁
  iintro H; iexact H

theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) = 0 := by fin_cases w <;> fin_cases s <;> decide
    rcases t with ⟨_ | _, ht⟩
    · exact mayWait_owe c (.dma ((cfg0.win w).sem s)) (dues c) fun x hx => by
        rw [h0]; revert x; simp only [List.forall_mem_cons]; revert c; decide
    · exact mayWait_owe c (.dma ((cfg0.win w).sem s)) [] fun x hx => absurd hx List.not_mem_nil

/-! ## The run -/

def finalA (c : Dev nD) (w : Fin cfg0.W) : Buf (Elt F) ((cfg0.win w).arr.view.loc (c : Thread nD τ)) := (dats m ρ 0 c).arrAt w cfg0.N

theorem final_q (c : Dev nD) : finalA m ρ c (0 : Fin 2) = m ((c : Thread nD τ).loc main_arg0) :=
  (dats (F := F) m ρ 0 c).arrAt_in (0 : Fin 2) rfl _

theorem final_out (c : Dev nD) : finalA m ρ c (1 : Fin 2) = outAt m c := by
  have h : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  rw [← h]
  exact (Memref.read_access_unit_zero (Elt F) main_v1 hz (fun a => by fin_cases a <;> decide) _).symm

/-- The staged queries are the queries. -/
theorem xq_eq (c : Dev nD) : xq m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- What every run ends with on device `c`. -/
def QC (r : PUnit × MemSt nD τ sig (Elt F)) : Prop :=
  ∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem read_args (c : Dev nD) (s' : Phys nD τ sig (Elt F)) :
    iprop((unscopedSems0 c ∗ args m c) ∗ emp ∗ SI s') ⊢ |={Set.univ}=> (iprop(⌜QY m c s'.mem⌝ ∗ SI s') : sProp 𝕄) := by
  unfold args
  iintro ⟨⟨Hu, HK, HV⟩, -, HSI⟩
  ihave H := (persistent_entails_right (SI_pointsTo_agree (st := s') (I := Finset.univ) (q := fullShare)
    (ℓ := (c : Thread nD τ).loc main_arg1) (f := xk m c))) $$ [HSI HK]
  · isplitl [HSI] <;> iassumption
  icases H with ⟨%hk, HSI, -⟩
  ihave H := (persistent_entails_right (SI_pointsTo_agree (st := s') (I := Finset.univ) (q := fullShare)
    (ℓ := (c : Thread nD τ).loc main_arg2) (f := xv m c))) $$ [HSI HV]
  · isplitl [HSI] <;> iassumption
  icases H with ⟨%hv, HSI, -⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hk i (Finset.mem_univ _), funext fun i => hv i (Finset.mem_univ _)⟩
  · iexact HSI

set_option maxRecDepth 65536 in
set_option maxHeartbeats 1000000 in
/-- Every weakly fair run of the whole program on the four devices ends, with the output computed, the arguments as they
    were and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (show BI.own (((Emb.inl : Emb UB (UB × Counters)).trans embR) (initOf ringCells (toksF ∪ toksT))) ⊢ (BI.own (ER (initOf ringCells (toksF ∪ toksT))) : sProp 𝕄)
        from Entails.of_eq (by unfold ER; rfl)) $$ HX
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m)
    (hY := read_args m)
    (hQ := fun _ h hs => ⟨fun c => ⟨((h c).1 (1 : Fin 2)).trans (final_out m ρ c), ((h c).1 (0 : Fin 2)).trans (final_q m ρ c), (h c).2.2.2.1, (h c).2.2.2.2⟩,
      sem_eq_zero hs fun c => (h c).2.2.1⟩)

end Cert.KernelIdeal.Attn

end
-- ==== Proof.Soft.lean ====
/-
The mathematics of the combination, over the extended reals: a softmax-weighted sum taken part by part, each part
below its own maximum, and put together by the exponentials of the parts' maxima below the greatest, is the
softmax-weighted sum over all the keys at once.
-/
module

public import Idealize.ShloMosaic.PureOps.Ideal
public import Idealize.ShloMosaic.PureOps.Ideal.Laws

@[expose] public section

noncomputable section

namespace Cert.Soft

open Idealize.ShloMosaic

/-- Multiplication by a real number that is not negative goes into a sum, whatever the terms. -/
theorem sum_mul_coe {ι : Type} (t : Finset ι) (f : ι → EReal) {c : ℝ} (hc : 0 ≤ c) :
    (∑ i ∈ t, f i) * (c : EReal) = ∑ i ∈ t, f i * (c : EReal) := by
  classical
  induction t using Finset.induction with
  | empty => rw [Finset.sum_empty, Finset.sum_empty, zero_mul]
  | insert a t ha ih =>
    rw [Finset.sum_insert ha, Finset.sum_insert ha, ← ih]
    exact EReal.right_distrib_of_nonneg_of_ne_top (EReal.coe_nonneg.mpr hc) (EReal.coe_ne_top c) _ _
theorem coe_mul_sum {ι : Type} (t : Finset ι) (f : ι → EReal) {c : ℝ} (hc : 0 ≤ c) :
    (c : EReal) * (∑ i ∈ t, f i) = ∑ i ∈ t, (c : EReal) * f i := by
  rw [mul_comm, sum_mul_coe t f hc]
  exact Finset.sum_congr rfl fun i _ => mul_comm _ _
theorem coe_sum {ι : Type} (t : Finset ι) (f : ι → ℝ) : ((∑ i ∈ t, f i : ℝ) : EReal) = ∑ i ∈ t, (f i : EReal) := by
  classical
  induction t using Finset.induction with
  | empty => rw [Finset.sum_empty, Finset.sum_empty]; rfl
  | insert a t ha ih => rw [Finset.sum_insert ha, Finset.sum_insert ha, EReal.coe_add, ih]

theorem exp_coe (r : ℝ) : Ideal.exp (r : EReal) = (Real.exp r : EReal) := rfl
theorem exp_sub (a b : ℝ) : Ideal.exp ((a : EReal) - (b : EReal)) = (Real.exp (a - b) : EReal) := by
  rw [← EReal.coe_sub]; rfl
theorem div_coe (x : EReal) {c : ℝ} (hc : 0 < c) : Ideal.div x (c : EReal) = x * ((c⁻¹ : ℝ) : EReal) := by
  unfold Ideal.div
  rw [if_neg (fun h => hc.ne' (EReal.coe_eq_zero.mp h)), EReal.coe_inv]

/-- The greatest of a family, the least extended real if it is empty. -/
def mx {ι : Type} [Fintype ι] (f : ι → EReal) : EReal := (Finset.univ : Finset ι).fold max ⊥ f

theorem mx_eq_sup {ι : Type} [Fintype ι] (f : ι → EReal) : mx f = Finset.univ.sup f := rfl
theorem le_mx {ι : Type} [Fintype ι] (f : ι → EReal) (i : ι) : f i ≤ mx f := Finset.le_sup (f := f) (Finset.mem_univ i)
theorem mx_le {ι : Type} [Fintype ι] {f : ι → EReal} {b : EReal} (h : ∀ i, f i ≤ b) : mx f ≤ b := Finset.sup_le fun i _ => h i
theorem mx_attained {ι : Type} [Fintype ι] [Nonempty ι] (f : ι → EReal) : ∃ i, mx f = f i := by
  obtain ⟨i, -, h⟩ := Finset.exists_mem_eq_sup (Finset.univ : Finset ι) Finset.univ_nonempty f
  exact ⟨i, h⟩
/-- The greatest of the parts' greatest is the greatest of all. -/
theorem mx_mx {α β γ : Type} [Fintype α] [Fintype β] [Fintype γ] (e : α × β ≃ γ) (f : γ → EReal) :
    mx (fun a => mx fun b => f (e (a, b))) = mx f := by
  refine le_antisymm (mx_le fun a => mx_le fun b => le_mx f _) (mx_le fun c => ?_)
  have h := (le_mx (fun b => f (e ((e.symm c).1, b))) (e.symm c).2).trans (le_mx (fun a => mx fun b => f (e (a, b))) (e.symm c).1)
  rwa [Prod.mk.eta, Equiv.apply_symm_apply] at h
theorem mx_four (f : Fin 4 → EReal) : mx f = max (max (max (f 0) (f 1)) (f 2)) (f 3) := by
  refine le_antisymm (mx_le fun i => ?_) (max_le (max_le (max_le (le_mx f 0) (le_mx f 1)) (le_mx f 2)) (le_mx f 3))
  match i with
  | 0 => exact le_max_of_le_left (le_max_of_le_left (le_max_left _ _))
  | 1 => exact le_max_of_le_left (le_max_of_le_left (le_max_right _ _))
  | 2 => exact le_max_of_le_left (le_max_right _ _)
  | 3 => exact le_max_right _ _

section Parts

variable {α β γ : Type} [Fintype α] [Nonempty α] [Fintype β] [Nonempty β] [Fintype γ]

/-- A part's sum of exponentials, and its weighed values, below the part's maximum; -/
def den (s : β → EReal) : EReal := ∑ i, Ideal.exp (s i - mx s)
def num (s v : β → EReal) : EReal := ∑ i, Ideal.exp (s i - mx s) * v i
/-- the softmax-weighted sum. -/
def soft (s v : γ → EReal) : EReal := ∑ n, v n * Ideal.div (Ideal.exp (s n - mx s)) (∑ k, Ideal.exp (s k - mx s))

/-- The parts together are the whole. -/
theorem parts_eq (e : α × β ≃ γ) (s v : γ → EReal) (hs : ∀ n, ∃ r : ℝ, s n = r) :
    Ideal.div
      (∑ a, Ideal.exp (mx (fun b => s (e (a, b))) - mx fun a => mx fun b => s (e (a, b))) * num (fun b => s (e (a, b))) fun b => v (e (a, b)))
      (∑ a, Ideal.exp (mx (fun b => s (e (a, b))) - mx fun a => mx fun b => s (e (a, b))) * den fun b => s (e (a, b)))
      = soft s v := by
  choose σ hσ using hs
  obtain rfl : s = fun n => (σ n : EReal) := funext hσ
  have hγ : Nonempty γ := ⟨e (Classical.arbitrary _)⟩
  rw [mx_mx e fun n => (σ n : EReal)]
  obtain ⟨n₀, hM⟩ := mx_attained fun n => (σ n : EReal)
  have hm : ∀ a, ∃ b, (mx fun b => (σ (e (a, b)) : EReal)) = (σ (e (a, b)) : EReal) := fun a => mx_attained _
  choose μ hμ using hm
  have hexp : ∀ a b, Real.exp (σ (e (a, μ a)) - σ n₀) * Real.exp (σ (e (a, b)) - σ (e (a, μ a))) = Real.exp (σ (e (a, b)) - σ n₀) :=
    fun a b => by rw [← Real.exp_add]; congr 1; ring
  have hden : (∑ a, Ideal.exp (mx (fun b => (σ (e (a, b)) : EReal)) - mx fun n => (σ n : EReal)) * den fun b => (σ (e (a, b)) : EReal))
      = ((∑ n, Real.exp (σ n - σ n₀) : ℝ) : EReal) := by
    rw [← Equiv.sum_comp e, Fintype.sum_prod_type, coe_sum]
    refine Finset.sum_congr rfl fun a _ => ?_
    unfold den
    rw [hμ a, hM, exp_sub, coe_mul_sum _ _ (Real.exp_pos _).le, coe_sum]
    refine Finset.sum_congr rfl fun b _ => ?_
    rw [exp_sub, ← EReal.coe_mul, hexp]
  have hnum : (∑ a, Ideal.exp (mx (fun b => (σ (e (a, b)) : EReal)) - mx fun n => (σ n : EReal)) * num (fun b => (σ (e (a, b)) : EReal)) fun b => v (e (a, b)))
      = ∑ n, (Real.exp (σ n - σ n₀) : EReal) * v n := by
    rw [← Equiv.sum_comp e, Fintype.sum_prod_type]
    refine Finset.sum_congr rfl fun a _ => ?_
    unfold num
    rw [hμ a, hM, exp_sub, coe_mul_sum _ _ (Real.exp_pos _).le]
    refine Finset.sum_congr rfl fun b _ => ?_
    rw [exp_sub, ← mul_assoc, ← EReal.coe_mul, hexp]
  have hpos : 0 < ∑ n, Real.exp (σ n - σ n₀) := Finset.sum_pos (fun n _ => Real.exp_pos _) Finset.univ_nonempty
  have hall : (∑ k, Ideal.exp ((σ k : EReal) - mx fun n => (σ n : EReal))) = ((∑ n, Real.exp (σ n - σ n₀) : ℝ) : EReal) := by
    rw [coe_sum, hM]; exact Finset.sum_congr rfl fun n _ => exp_sub _ _
  unfold soft
  rw [hden, hnum, hall, div_coe _ hpos, sum_mul_coe _ _ (inv_nonneg.mpr hpos.le)]
  refine Finset.sum_congr rfl fun n _ => ?_
  rw [div_coe _ hpos, hM, exp_sub, mul_comm (Real.exp _ : EReal) (v n), mul_assoc]

end Parts

end Cert.Soft

end
-- ==== Proof.KerVal.lean ====
/-
What the kernel computes, read over the extended reals: a head's scores, its maximum, its sum of exponentials, its
weighed values; and the combination of four partial results, element by element.
-/
module

public import proofs.«01_k».proof.Proof.KernelIdeal.Comb
public import proofs.«01_k».proof.Proof.Soft
public import Idealize.ShloMosaic.Lib.ValueIdx
public import Idealize.ShloMosaic.Lib.MatmulPlain
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.ValueIdx
open Cert.Soft

/-- The scale, as the value its literal denotes: a real number that is not negative. -/
def kscl : EReal := Ideal.ofBits .f32 0x3DB504F3#32
theorem kscl_real : ∃ r : ℝ, 0 ≤ r ∧ kscl = r := by
  refine ⟨1 * ((2 ^ 23 + 3474675 : ℕ) : ℝ) * (2 : ℝ) ^ ((123 : ℤ) - 127 - 23), by positivity, ?_⟩
  simp [kscl, Ideal.ofBits, Ideal.ieee]
theorem neg_inf : Ideal.ofBits .f32 0xFF800000#32 = ⊥ := by simp [Ideal.ofBits, Ideal.ieee]

/-! ## One head -/

theorem cast_q (Q : QBuf Ideal) (b : Fin 4) (h : Fin 8) (q : Fin 32) (d : Fin 128) :
    shapeCast S32x128 (qOf Q b h) shapeCasts_S1x32x1x128_S32x128 (ix2 q d) = Q (ix4 b q h d : S4x32x8x128.Idx) :=
  shapeCast_apply (qOf Q b h) _ _ (ix4 (0 : Fin 1) q (0 : Fin 1) d) (by
    rw [Shape.rowMajor_val_two, Shape.rowMajor_val_four]
    show (((0 * 32 + q.val) * 1 + 0) * 128 + d.val) = q.val * 128 + d.val
    omega)
theorem cast_kv (K : KBuf Ideal) (b : Fin 4) (h : Fin 8) (n : Fin 4096) (d : Fin 128) :
    shapeCast S4096x128 (headOf K b h) shapeCasts_S1x4096x128_S4096x128 (ix2 n d) = K (ix4 b n h d : S4x4096x8x128.Idx) :=
  shapeCast_1ab_ab_apply (headOf K b h) _ _ _

theorem scores_apply (Q : QBuf Ideal) (K : KBuf Ideal) (b : Fin 4) (h : Fin 8) (q : Fin 32) (n : Fin 4096) :
    scores (qOf Q b h) (headOf K b h) (ix2 q n)
      = (∑ d : Fin 128, Q (ix4 b q h d : S4x32x8x128.Idx) * K (ix4 b n h d : S4x4096x8x128.Idx)) * kscl := by
  unfold scores
  show FloatOps.matmul (DotDims.transposedRhs 32 128 4096) none _ _ _ (ix2 q n) = _
  rw [Ideal.matmul_transposedRhs_apply]
  show Ideal.ofBits .f32 0x00000000#32 + _ = _
  obtain ⟨r, hr, e⟩ := kscl_real
  rw [Ideal.ofBits_zero_f32, zero_add, e, sum_mul_coe _ _ hr]
  refine Finset.sum_congr rfl fun d _ => ?_
  rw [mulf_apply, cast_q, cast_kv, ← e, mul_right_comm]
  rfl

theorem red : S32x4096.Reduces [1] S32 := by decide
theorem lift_eq (q : Fin 32) (n : Fin 4096) : red.lift (ix1 q) n = ix2 q n := by
  funext ax; apply Fin.ext
  match ax with
  | ⟨0, _⟩ => rfl
  | ⟨1, _⟩ => rfl
theorem cast_one (x : FVec Ideal S32 .f32) (q : Fin 32) : shapeCast S32x1 x shapeCasts_S32_S32x1 (ix2 q (0 : Fin 1)) = x (ix1 q) :=
  shapeCast_apply x _ _ (ix1 q) (by
    rw [Shape.rowMajor_val_two, Shape.rowMajor_val_one]
    show q.val = q.val * 1 + 0
    omega)
theorem bc_apply {n : ℕ} (x : FVec Ideal S32x1 .f32) (h : S32x1.Broadcasts ⟨2, ![32, n]⟩) (q : Fin 32) (d : Fin n) :
    broadcastTo ⟨2, ![32, n]⟩ x h (ix2 q d) = x (ix2 q (0 : Fin 1)) :=
  broadcastTo_apply _ _ _ _ fun a => by match a with | ⟨0, _⟩ => rfl | ⟨1, _⟩ => rfl

section Head
variable (u : Vec Ideal S1x32x1x128 .f32) (k v : Vec Ideal S1x4096x128 .f32)

theorem rowMax_apply (q : Fin 32) : rowMax u k (ix2 q (0 : Fin 1)) = mx fun n : Fin 4096 => scores u k (ix2 q n) := by
  unfold rowMax
  rw [cast_one]
  refine (Ideal.multiReduction_maximumf_single (scores u k) _ red (.inl rfl) rfl (ix1 q)).trans ?_
  show (Finset.univ : Finset (Fin 4096)).fold max (Ideal.ofBits .f32 0xFF800000#32) (scores u k ∘ red.lift (ix1 q)) = _
  rw [neg_inf, show scores u k ∘ red.lift (ix1 q) = fun n : Fin 4096 => scores u k (ix2 q n) from funext fun n => congrArg (scores u k) (lift_eq q n)]
  rfl
theorem exp_vec_apply {s : Shape} (x : FVec Ideal s .f32) (i : s.Idx) : exp x i = Ideal.exp (x i) := rfl
theorem expo_apply (q : Fin 32) (n : Fin 4096) :
    expo u k (ix2 q n) = Ideal.exp (scores u k (ix2 q n) - mx fun n : Fin 4096 => scores u k (ix2 q n)) := by
  unfold expo
  rw [exp_vec_apply, subf_apply, bc_apply, rowMax_apply]
theorem rowSum_apply (q : Fin 32) : rowSum u k (ix2 q (0 : Fin 1)) = den fun n : Fin 4096 => scores u k (ix2 q n) := by
  unfold rowSum den
  rw [cast_one]
  refine (Ideal.multiReduction_add_single (expo u k) _ red (.inl rfl) rfl (ix1 q)).trans ?_
  show (∑ n : Fin 4096, expo u k (red.lift (ix1 q) n)) = _
  simp only [lift_eq, expo_apply]
theorem weighed_apply (q : Fin 32) (d : Fin 128) :
    weighed u k v (ix2 q d)
      = num (fun n : Fin 4096 => scores u k (ix2 q n)) fun n => shapeCast S4096x128 v shapeCasts_S1x4096x128_S4096x128 (ix2 n d) := by
  unfold weighed num
  show FloatOps.matmul (DotDims.plain 32 4096 128) none _ _ _ (ix2 q d) = _
  rw [Ideal.matmul_plain_apply]
  show Ideal.ofBits .f32 0x00000000#32 + _ = _
  rw [Ideal.ofBits_zero_f32, zero_add]
  simp only [expo_apply]
end Head

/-! ## The combination -/

theorem castCol_apply (x : Vec Ideal S1x1x1x32x1 .f32) (q : Fin 32) :
    castCol x (ix2 q (0 : Fin 1)) = x (ix5 (0 : Fin 1) (0 : Fin 1) (0 : Fin 1) q (0 : Fin 1)) :=
  shapeCast_apply x _ _ _ (by
    rw [Shape.rowMajor_val_two, Shape.rowMajor_val_five]
    show ((((0 * 1 + 0) * 1 + 0) * 32 + q.val) * 1 + 0) = q.val * 1 + 0
    omega)
theorem castRow_apply (x : Vec Ideal S1x1x1x32x128 .f32) (q : Fin 32) (d : Fin 128) :
    castRow x (ix2 q d) = x (ix5 (0 : Fin 1) (0 : Fin 1) (0 : Fin 1) q d) :=
  shapeCast_apply x _ _ _ (by
    rw [Shape.rowMajor_val_two, Shape.rowMajor_val_five]
    show ((((0 * 1 + 0) * 1 + 0) * 32 + q.val) * 128 + d.val) = q.val * 128 + d.val
    omega)

/-- A partial result's maximum, sum and weighed value of one head. -/
def pm (X : Part Ideal) (h : Fin 8) (q : Fin 32) : EReal := X 8 q ⟨(mCol h).val, col128 (mCol h)⟩
def pl (X : Part Ideal) (h : Fin 8) (q : Fin 32) : EReal := X 8 q ⟨(lCol h).val, col128 (lCol h)⟩
def po (X : Part Ideal) (h : Fin 8) (q : Fin 32) (d : Fin 128) : EReal := X (oRow h) q d

theorem castCol_m (X : Part Ideal) (h : Fin 8) (q : Fin 32) : castCol (colVec X (mCol h)) (ix2 q (0 : Fin 1)) = pm X h q := castCol_apply _ q
theorem castCol_l (X : Part Ideal) (h : Fin 8) (q : Fin 32) : castCol (colVec X (lCol h)) (ix2 q (0 : Fin 1)) = pl X h q := castCol_apply _ q
theorem castRow_o (X : Part Ideal) (h : Fin 8) (q : Fin 32) (d : Fin 128) : castRow (rowVec X (oRow h)) (ix2 q d) = po X h q d := castRow_apply _ q d

/-- The combination of four parts, element by element. -/
theorem outOf_apply (X : Fin 4 → Part Ideal) (h : Fin 8) (q : Fin 32) (d : Fin 128) :
    outOf (X 0) (X 1) (X 2) (X 3) h (ix2 q d)
      = Ideal.div (∑ a, Ideal.exp (pm (X a) h q - mx fun a => pm (X a) h q) * po (X a) h q d)
          (∑ a, Ideal.exp (pm (X a) h q - mx fun a => pm (X a) h q) * pl (X a) h q) := by
  unfold outOf combined top weight addW addO
  simp only [divf_apply, addf_apply, mulf_apply, bc_apply, exp_vec_apply, subf_apply, maximumf_apply, castCol_m, castCol_l, castRow_o,
    Fin.sum_univ_four, mx_four]
  show Ideal.div (Ideal.ofBits .f32 0x00000000#32 + _ + _ + _ + _) (Ideal.ofBits .f32 0x00000000#32 + _ + _ + _ + _) = _
  rw [Ideal.ofBits_zero_f32, zero_add, zero_add]

end Cert.KernelIdeal.Attn

end
-- ==== Proof.RefVal.lean ====
/-
What the reference computes: at batch b, query q, head h and lane d the softmax-weighted sum of the values, the scores
being the scaled products of the query with the keys.
-/
module

public import proofs.«01_k».proof.Proof.Gen.ReferenceIdeal.Run
public import proofs.«01_k».proof.Proof.Soft
public import Idealize.ShloMosaic.Lib.ValueIdx
public import Idealize.ShloMosaic.Lib.ValueLayout
public import Idealize.ShloMosaic.Lib.Pipeline.Value

@[expose] public section

set_option maxRecDepth 16384

noncomputable section

namespace Cert.ReferenceIdeal.Attn

open Cert.ReferenceIdeal Cert.ReferenceIdeal.Gen
open Idealize.ShloMosaic Idealize.ShloMosaic.ValueIdx
open Cert.Soft

abbrev QArr : Type := FVec Ideal S4x32x8x128 .f32
abbrev KArr : Type := FVec Ideal S4x16384x8x128 .f32

/-- The scale, as the value its literal denotes. -/
def scl : EReal := Ideal.ofBits .f32 0x3DB504F3#32

/-- The steps of the reference, each of the one before. -/
def scores (Q : QArr) (K : KArr) : FVec Ideal S4x8x32x16384 .f32 :=
  mulf (Host.dotGeneral dot_S4x32x8x128_S4x16384x8x128_S4x8x32x16384_3_3_1_1_02_02 none Q K)
    (broadcastInDim S4x8x32x16384 ![] bcast_S_S4x8x32x16384 (constant S_ .f32 0x3DB504F3#32))
def along (x : FVec Ideal S4x8x32 .f32) : FVec Ideal S4x8x32x16384 .f32 :=
  broadcastInDim S4x8x32x16384 ![0, 1, 2, 3] bcast_S4x8x32x1_S4x8x32x16384_0_1_2_3
    (broadcastInDim S4x8x32x1 ![0, 1, 2] bcast_S4x8x32_S4x8x32x1_0_1_2 x)
def maxima (s : FVec Ideal S4x8x32x16384 .f32) : FVec Ideal S4x8x32 .f32 :=
  Host.reduce FloatOps.maximumf s (constant S_ .f32 0xFF800000#32) reducesTo_S4x8x32x16384_S4x8x32_d3 h_S_
def sums (p : FVec Ideal S4x8x32x16384 .f32) : FVec Ideal S4x8x32 .f32 :=
  Host.reduceAdd p (constant S_ .f32 0x00000000#32) reducesTo_S4x8x32x16384_S4x8x32_d3 h_S_
def below (s : FVec Ideal S4x8x32x16384 .f32) : FVec Ideal S4x8x32x16384 .f32 := Host.exp (subf s (along (maxima s)))
def weights (s : FVec Ideal S4x8x32x16384 .f32) : FVec Ideal S4x8x32x16384 .f32 := Host.divf (below s) (along (sums (below s)))
def refOut (Q : QArr) (K V : KArr) : FVec Ideal S4x32x8x128 .f32 :=
  transpose S4x32x8x128 [0, 3, 1, 2]
    (Host.dotGeneral dot_S4x16384x8x128_S4x8x32x16384_S4x8x128x32_1_3_3_2_02_01 none V (weights (scores Q K)))
    transposes_S4x8x128x32_S4x32x8x128_0_3_1_2

theorem neg_inf : Ideal.ofBits .f32 0xFF800000#32 = ⊥ := by simp [Ideal.ofBits, Ideal.ieee]

theorem dot_scores (Q : QArr) (K : KArr) (b : Fin 4) (h : Fin 8) (q : Fin 32) (n : Fin 16384) :
    Host.dotGeneral dot_S4x32x8x128_S4x16384x8x128_S4x8x32x16384_3_3_1_1_02_02 none Q K (ix4 b h q n)
      = ∑ d : Fin 128, Q (ix4 b q h d) * K (ix4 b n h d) := by
  show FloatOps.dotGeneral _ none _ Q K (ix4 b h q n) = _
  rw [Ideal.dotGeneral_apply,
    ← Equiv.sum_comp (contrEquiv1 dot_S4x32x8x128_S4x16384x8x128_S4x8x32x16384_3_3_1_1_02_02 128 rfl rfl).symm]
  refine Finset.sum_congr rfl fun d _ => ?_
  have cd := contrEquiv1_symm_val dot_S4x32x8x128_S4x16384x8x128_S4x8x32x16384_3_3_1_1_02_02 128 rfl rfl d
  have l : dot_S4x32x8x128_S4x16384x8x128_S4x8x32x16384_3_3_1_1_02_02.lhsIdx (ix4 b h q n)
      ((contrEquiv1 _ 128 rfl rfl).symm d) = ix4 b q h d := by
    funext ax; apply Fin.ext
    match ax with
    | ⟨0, _⟩ => rfl
    | ⟨1, _⟩ => rfl
    | ⟨2, _⟩ => rfl
    | ⟨3, _⟩ => exact cd
  have r : dot_S4x32x8x128_S4x16384x8x128_S4x8x32x16384_3_3_1_1_02_02.rhsIdx (ix4 b h q n)
      ((contrEquiv1 _ 128 rfl rfl).symm d) = ix4 b n h d := by
    funext ax; apply Fin.ext
    match ax with
    | ⟨0, _⟩ => rfl
    | ⟨1, _⟩ => rfl
    | ⟨2, _⟩ => rfl
    | ⟨3, _⟩ => exact cd
  rw [l, r]

theorem dot_out (V : KArr) (w : FVec Ideal S4x8x32x16384 .f32) (b : Fin 4) (h : Fin 8) (d : Fin 128) (q : Fin 32) :
    Host.dotGeneral dot_S4x16384x8x128_S4x8x32x16384_S4x8x128x32_1_3_3_2_02_01 none V w (ix4 b h d q)
      = ∑ n : Fin 16384, V (ix4 b n h d) * w (ix4 b h q n) := by
  show FloatOps.dotGeneral _ none _ V w (ix4 b h d q) = _
  rw [Ideal.dotGeneral_apply,
    ← Equiv.sum_comp (contrEquiv1 dot_S4x16384x8x128_S4x8x32x16384_S4x8x128x32_1_3_3_2_02_01 16384 rfl rfl).symm]
  refine Finset.sum_congr rfl fun n _ => ?_
  have cn := contrEquiv1_symm_val dot_S4x16384x8x128_S4x8x32x16384_S4x8x128x32_1_3_3_2_02_01 16384 rfl rfl n
  have l : dot_S4x16384x8x128_S4x8x32x16384_S4x8x128x32_1_3_3_2_02_01.lhsIdx (ix4 b h d q)
      ((contrEquiv1 _ 16384 rfl rfl).symm n) = ix4 b n h d := by
    funext ax; apply Fin.ext
    match ax with
    | ⟨0, _⟩ => rfl
    | ⟨1, _⟩ => exact cn
    | ⟨2, _⟩ => rfl
    | ⟨3, _⟩ => rfl
  have r : dot_S4x16384x8x128_S4x8x32x16384_S4x8x128x32_1_3_3_2_02_01.rhsIdx (ix4 b h d q)
      ((contrEquiv1 _ 16384 rfl rfl).symm n) = ix4 b h q n := by
    funext ax; apply Fin.ext
    match ax with
    | ⟨0, _⟩ => rfl
    | ⟨1, _⟩ => rfl
    | ⟨2, _⟩ => rfl
    | ⟨3, _⟩ => exact cn
  rw [l, r]

theorem along_apply (x : FVec Ideal S4x8x32 .f32) (b : Fin 4) (h : Fin 8) (q : Fin 32) (n : Fin 16384) :
    along x (ix4 b h q n) = x (ix3 b h q) := by
  unfold along
  rw [broadcastInDim_apply _ _ _ (ix4 b h q n) (ix4 b h q (0 : Fin 1) : S4x8x32x1.Idx)
      (fun a => by match a with | ⟨0, _⟩ => rfl | ⟨1, _⟩ => rfl | ⟨2, _⟩ => rfl | ⟨3, _⟩ => rfl),
    broadcastInDim_apply _ _ _ _ (ix3 b h q : S4x8x32.Idx) (fun a => by match a with | ⟨0, _⟩ => rfl | ⟨1, _⟩ => rfl | ⟨2, _⟩ => rfl)]

theorem red : S4x8x32x16384.Reduces [3] S4x8x32 := by decide
theorem lift_eq (b : Fin 4) (h : Fin 8) (q : Fin 32) (n : Fin 16384) : red.lift (ix3 b h q) n = ix4 b h q n := by
  funext ax; apply Fin.ext
  match ax with
  | ⟨0, _⟩ => rfl
  | ⟨1, _⟩ => rfl
  | ⟨2, _⟩ => rfl
  | ⟨3, _⟩ => rfl

theorem maxima_apply (s : FVec Ideal S4x8x32x16384 .f32) (b : Fin 4) (h : Fin 8) (q : Fin 32) :
    maxima s (ix3 b h q) = mx fun n : Fin 16384 => s (ix4 b h q n) := by
  unfold maxima
  rw [Host.reduce_eq_fold_single FloatOps.maximumf s _ _ red]
  show (Finset.univ : Finset (Fin 16384)).fold max (Ideal.ofBits .f32 0xFF800000#32) (s ∘ red.lift (ix3 b h q)) = _
  rw [neg_inf, show s ∘ red.lift (ix3 b h q) = fun n : Fin 16384 => s (ix4 b h q n) from funext fun n => congrArg s (lift_eq b h q n)]
  rfl

theorem sums_apply (p : FVec Ideal S4x8x32x16384 .f32) (b : Fin 4) (h : Fin 8) (q : Fin 32) :
    sums p (ix3 b h q) = ∑ n : Fin 16384, p (ix4 b h q n) := by
  unfold sums
  show Ideal.hostReduceAdd reducesTo_S4x8x32x16384_S4x8x32_d3 p (Ideal.ofBits .f32 0x00000000#32) (ix3 b h q) = _
  rw [Ideal.hostReduceAdd_single _ red, Ideal.ofBits_zero_f32, zero_add]
  show (∑ n : Fin 16384, p (red.lift (ix3 b h q) n)) = _
  simp only [lift_eq]

theorem hostDivf_apply {s : Shape} (x y : FVec Ideal s .f32) (i : s.Idx) : Host.divf x y i = Ideal.div (x i) (y i) := rfl

/-- One score: a query with a key. -/
def score (Q : QArr) (K : KArr) (b : Fin 4) (h : Fin 8) (q : Fin 32) (n : Fin 16384) : EReal :=
  (∑ d : Fin 128, Q (ix4 b q h d) * K (ix4 b n h d)) * scl

theorem scores_apply (Q : QArr) (K : KArr) (b : Fin 4) (h : Fin 8) (q : Fin 32) (n : Fin 16384) :
    scores Q K (ix4 b h q n) = score Q K b h q n := by
  unfold scores score
  rw [mulf_apply, dot_scores]; rfl

theorem below_apply (s : FVec Ideal S4x8x32x16384 .f32) (b : Fin 4) (h : Fin 8) (q : Fin 32) (n : Fin 16384) :
    below s (ix4 b h q n) = Ideal.exp (s (ix4 b h q n) - mx fun n : Fin 16384 => s (ix4 b h q n)) := by
  rw [← maxima_apply, ← along_apply (maxima s) b h q n]; rfl
theorem weights_apply (s : FVec Ideal S4x8x32x16384 .f32) (b : Fin 4) (h : Fin 8) (q : Fin 32) (n : Fin 16384) :
    weights s (ix4 b h q n) = Ideal.div (below s (ix4 b h q n)) (∑ k : Fin 16384, below s (ix4 b h q k)) := by
  unfold weights
  rw [hostDivf_apply, along_apply, sums_apply]

/-- The reference's output, element by element. -/
theorem refOut_apply (Q : QArr) (K V : KArr) (b : Fin 4) (q : Fin 32) (h : Fin 8) (d : Fin 128) :
    refOut Q K V (ix4 b q h d) = soft (score Q K b h q) fun n : Fin 16384 => V (ix4 b n h d) := by
  unfold refOut
  rw [transpose_apply _ _ _ _ (ix4 b h d q : S4x8x128x32.Idx)
    (fun a => by match a with | ⟨0, _⟩ => rfl | ⟨1, _⟩ => rfl | ⟨2, _⟩ => rfl | ⟨3, _⟩ => rfl), dot_out]
  unfold soft
  refine Finset.sum_congr rfl fun n _ => ?_
  rw [weights_apply]
  simp only [below_apply, scores_apply]

end Cert.ReferenceIdeal.Attn

end
-- ==== Proof.Equal.lean ====
/-
The kernel's output is the reference's: the four devices' partial results are the four blocks of the keys, whichever order
a device combines them in, and the parts together are the whole.
-/
module

public import proofs.«01_k».proof.Proof.KerVal
public import proofs.«01_k».proof.Proof.RefVal
public import proofs.«01_k».proof.Proof.KernelIdeal.Run
public import Idealize.ShloMosaic.Lib.Layout

@[expose] public section

set_option maxRecDepth 16384

noncomputable section

namespace Cert.KernelIdeal.Attn

open Cert.KernelIdeal Cert.KernelIdeal.Gen
open Idealize.ShloMosaic Idealize.ShloMosaic.ValueIdx
open Cert.Soft
open Cert.ReferenceIdeal.Attn (QArr KArr score refOut refOut_apply)

/-! ## A partial result's pieces -/

section Part
variable (Q : QBuf Ideal) (K V : KBuf Ideal) (b : Fin 4) (h : Fin 8) (q : Fin 32)

theorem colHead_m : colHead ⟨(mCol h).val, col128 (mCol h)⟩ = h := Fin.ext (by show 2 * h.val / 2 % 8 = h.val; omega)
theorem colHead_l : colHead ⟨(lCol h).val, col128 (lCol h)⟩ = h := Fin.ext (by show (2 * h.val + 1) / 2 % 8 = h.val; omega)

theorem pm_part : pm (part Q K V b) h q = mx fun n : Fin 4096 => scores (qOf Q b h) (headOf K b h) (ix2 q n) := by
  unfold pm part
  rw [dif_neg (by decide), if_pos (by show 2 * h.val % 2 = 0; omega), colHead_m, rowMax_apply]
theorem pl_part : pl (part Q K V b) h q = den fun n : Fin 4096 => scores (qOf Q b h) (headOf K b h) (ix2 q n) := by
  unfold pl part
  rw [dif_neg (by decide), if_neg (by show ¬ (2 * h.val + 1) % 2 = 0; omega), colHead_l, rowSum_apply]
theorem po_part (d : Fin 128) :
    po (part Q K V b) h q d
      = num (fun n : Fin 4096 => scores (qOf Q b h) (headOf K b h) (ix2 q n)) fun n => V (ix4 b n h d : S4x4096x8x128.Idx) := by
  unfold po part
  rw [dif_pos (show (oRow h).val < 8 from h.isLt), show (⟨(oRow h).val, h.isLt⟩ : Fin 8) = h from rfl, weighed_apply]
  exact congrArg (num _) (funext fun n => cast_kv V b h n d)
end Part

/-! ## The blocks of the keys -/

/-- The index of a device's key among all. -/
def e₀ : Fin 4 × Fin 4096 ≃ Fin 16384 := finProdFinEquiv
theorem e₀_val (c : Fin 4) (n : Fin 4096) : (e₀ (c, n)).val = c.val * 4096 + n.val := by
  show n.val + 4096 * c.val = _
  omega

theorem block_at (K : KArr) (c : Fin 4) (b : Fin 4) (n : Fin 4096) (h : Fin 8) (d : Fin 128) :
    Layout.block ⟨4, ![4, 4096, 8, 128]⟩ ⟨4, ![4, 16384, 8, 128]⟩ 1 4 c K (by decide) (ix4 b n h d : S4x4096x8x128.Idx)
      = K (ix4 b (e₀ (c, n)) h d) := by
  rw [Layout.block_apply]
  refine congrArg K ?_
  funext a; apply Fin.ext
  match a with
  | ⟨0, _⟩ => rfl
  | ⟨1, _⟩ => exact (e₀_val c n).symm
  | ⟨2, _⟩ => rfl
  | ⟨3, _⟩ => rfl

/-- The order in which device `c` combines the parts. -/
def order (c : Dev nD) : Fin 4 → Dev nD := ![c, prv c, nxt c, prv (prv c)]
theorem order_bij : ∀ c : Dev nD, Function.Bijective (order c) := by decide
def orderEquiv (c : Dev nD) : Fin 4 ≃ Dev nD := Equiv.ofBijective (order c) (order_bij c)
/-- All keys, the devices taken in that order. -/
def eAt (c : Dev nD) : Fin 4 × Fin 4096 ≃ Fin 16384 := ((orderEquiv c).prodCongr (Equiv.refl _)).trans e₀
theorem eAt_apply (c : Dev nD) (a : Fin 4) (n : Fin 4096) : eAt c (a, n) = e₀ (order c a, n) := rfl

/-! ## The equation -/

theorem score_real (Q : QArr) (K : KArr) (hQ : ∀ b q h d, ∃ r : ℝ, (Q (ix4 b q h d) : EReal) = r)
    (hK : ∀ b n h d, ∃ r : ℝ, (K (ix4 b n h d) : EReal) = r) (b : Fin 4) (h : Fin 8) (q : Fin 32) (n : Fin 16384) :
    ∃ r : ℝ, score Q K b h q n = r := by
  choose fq hq using fun d => hQ b q h d
  choose fk hk using fun d => hK b n h d
  obtain ⟨r, -, e⟩ := kscl_real
  refine ⟨(∑ d, fq d * fk d) * r, ?_⟩
  show (∑ d : Fin 128, Q (ix4 b q h d) * K (ix4 b n h d)) * kscl = _
  rw [e, EReal.coe_mul, coe_sum]
  simp only [hq, hk, EReal.coe_mul]

variable (m : (ℓ : Loc nD τ sig) → Buf (Elt Ideal) ℓ) (Q : QArr) (K V : KArr)
  (hq : ∀ c : Dev nD, m ((c.tc : Thread nD τ).loc main_arg0) = Q)
  (hk : ∀ c : Dev nD, m ((c.tc : Thread nD τ).loc main_arg1) = Layout.block ⟨4, ![4, 4096, 8, 128]⟩ ⟨4, ![4, 16384, 8, 128]⟩ 1 4 c K (by decide))
  (hv : ∀ c : Dev nD, m ((c.tc : Thread nD τ).loc main_arg2) = Layout.block ⟨4, ![4, 4096, 8, 128]⟩ ⟨4, ![4, 16384, 8, 128]⟩ 1 4 c V (by decide))

include hq hk in
theorem scores_dev (c : Dev nD) (b : Fin 4) (h : Fin 8) (q : Fin 32) (n : Fin 4096) :
    scores (qOf (xq m c) b h) (headOf (xk m c) b h) (ix2 q n) = score Q K b h q (e₀ (c, n)) := by
  rw [scores_apply, xq_eq, hq c, show xk m c = _ from hk c]
  simp only [block_at]
  rfl

include hq hk in
theorem pm_dev (c : Dev nD) (b : Fin 4) (h : Fin 8) (q : Fin 32) :
    pm (partOf m c b) h q = mx fun n => score Q K b h q (e₀ (c, n)) := by
  unfold partOf
  rw [pm_part]
  simp only [scores_dev m Q K hq hk]
include hq hk in
theorem pl_dev (c : Dev nD) (b : Fin 4) (h : Fin 8) (q : Fin 32) :
    pl (partOf m c b) h q = den fun n => score Q K b h q (e₀ (c, n)) := by
  unfold partOf
  rw [pl_part]
  simp only [scores_dev m Q K hq hk]
include hq hk hv in
theorem po_dev (c : Dev nD) (b : Fin 4) (h : Fin 8) (q : Fin 32) (d : Fin 128) :
    po (partOf m c b) h q d = num (fun n => score Q K b h q (e₀ (c, n))) fun n => V (ix4 b (e₀ (c, n)) h d) := by
  unfold partOf
  rw [po_part]
  simp only [scores_dev m Q K hq hk, show xv m c = _ from hv c, block_at]

include hq hk hv in
theorem out_eq (hQ : ∀ b q h d, ∃ r : ℝ, (Q (ix4 b q h d) : EReal) = r)
    (hK : ∀ b n h d, ∃ r : ℝ, (K (ix4 b n h d) : EReal) = r) (c : Dev nD) : outAt m c = refOut Q K V := by
  funext i
  obtain ⟨b, q, h, d, rfl⟩ : ∃ b q h d, i = (ix4 b q h d : S4x32x8x128.Idx) := ⟨_, _, _, _, eq_ix4 i⟩
  rw [refOut_apply, ← parts_eq (eAt c) (score Q K b h q) (fun n => V (ix4 b n h d)) (score_real Q K hQ hK b h q)]
  refine (outOf_apply (fun a => partOf m (order c a) b) h q d).trans ?_
  simp only [pm_dev m Q K hq hk, pl_dev m Q K hq hk, po_dev m Q K V hq hk hv, eAt_apply]

end Cert.KernelIdeal.Attn

end
-- ==== Proof.Finite.lean ====
/-
The assumption on the inputs, read off its printed form: every query and every key is a real number.
-/
module

public import proofs.«01_k».proof.Pre_finite_queries_keys_KernelIdeal
public import Idealize.ShloMosaic.PureOps.Ideal
public import Idealize.ShloMosaic.Lib.ValueLayout
public import Idealize.ShloMosaic.Lib.Pipeline.Value

@[expose] public section

set_option maxRecDepth 16384

noncomputable section

namespace Cert.Finite

open Cert.Pre_finite_queries_keys_KernelIdeal
open Idealize.ShloMosaic Idealize.ShloMosaic.ValueIdx

theorem pos_inf : Ideal.ofBits .f32 0x7F800000#32 = ⊤ := by simp [Ideal.ofBits, Ideal.ieee]

/-- An extended real whose absolute value is below the greatest one is a real number. -/
theorem real_of_abs_lt (x : EReal) (h : max x (-x) < ⊤) : ∃ r : ℝ, x = r := by
  induction x with
  | bot => simp at h
  | top => simp at h
  | coe r => exact ⟨r, rfl⟩

/-- One element of the comparison. -/
theorem lt_of_cmp (x : EReal) (h : Ideal.cmp .olt (max x (-x)) (Ideal.ofBits .f32 0x7F800000#32) = 1#1) : max x (-x) < ⊤ := by
  rw [pos_inf] at h
  unfold Ideal.cmp at h
  by_contra hx
  simp [hx] at h

variable [Facts] (Q : FVec Ideal S4x32x8x128 .f32) (K V : FVec Ideal S4x4096x8x128 .f32)
  (H : fn (F := Ideal) Q K V = fun _ => 1#1)
include H

theorem joined (j : S4x4128x8x128.Idx) :
    ∃ r : ℝ, (concatenate S4x4128x8x128 1 [⟨S4x32x8x128, Q⟩, ⟨S4x4096x8x128, K⟩]
      Facts.concatenates_S4x32x8x128_S4x4096x8x128_S4x4128x8x128_d1 j : EReal) = r :=
  real_of_abs_lt _ (lt_of_cmp _ (congrFun H j))

theorem queries (b : Fin 4) (q : Fin 32) (h : Fin 8) (d : Fin 128) : ∃ r : ℝ, (Q (ix4 b q h d : S4x32x8x128.Idx) : EReal) = r := by
  obtain ⟨r, e⟩ := joined Q K V H (ix4 b ⟨q.val, by omega⟩ h d : S4x4128x8x128.Idx)
  refine ⟨r, (concatenate_apply_piece (t := S4x4128x8x128) 1 [⟨S4x32x8x128, Q⟩, ⟨S4x4096x8x128, K⟩] _ _ 0 Nat.zero_lt_two S4x32x8x128 Q rfl rfl 0 rfl (ix4 b q h d : S4x32x8x128.Idx)
    (fun a ha => by match a with | ⟨0, _⟩ => rfl | ⟨1, _⟩ => exact absurd rfl ha | ⟨2, _⟩ => rfl | ⟨3, _⟩ => rfl)
    (Nat.zero_add _)).symm.trans e⟩
theorem keys (b : Fin 4) (n : Fin 4096) (h : Fin 8) (d : Fin 128) : ∃ r : ℝ, (K (ix4 b n h d : S4x4096x8x128.Idx) : EReal) = r := by
  obtain ⟨r, e⟩ := joined Q K V H (ix4 b ⟨32 + n.val, by omega⟩ h d : S4x4128x8x128.Idx)
  refine ⟨r, (concatenate_apply_piece (t := S4x4128x8x128) 1 [⟨S4x32x8x128, Q⟩, ⟨S4x4096x8x128, K⟩] _ _ 1 Nat.one_lt_two S4x4096x8x128 K rfl rfl 32 rfl (ix4 b n h d : S4x4096x8x128.Idx)
    (fun a ha => by match a with | ⟨0, _⟩ => rfl | ⟨1, _⟩ => exact absurd rfl ha | ⟨2, _⟩ => rfl | ⟨3, _⟩ => rfl)
    rfl).symm.trans e⟩

end Cert.Finite

end
-- ==== Proof.lean ====
/-
The certificate: the frames are the two runs with the values dropped; the reference's frame is its run; and the two runs'
values are equal where every query and every key is finite.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.Pre_finite_queries_keys_KernelIdeal
public import proofs.«01_k».proof.Proof.Gen.Pre_finite_queries_keys_ReferenceIdeal
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem

theorem frame_p : quiescent_Kernel (hKernel := Cert.Kernel.Gen.facts) := fun m g _ =>
  (θ_run Cert.Kernel.defs _ _).mono (fun _ h => ⟨fun c => (h.1 c).2, h.2⟩)
    (Cert.Kernel.Attn.run_main (F := Bits) m g)

theorem frame_pi : quiescent_KernelIdeal (hKernelIdeal := Cert.KernelIdeal.Gen.facts) := fun m g _ =>
  (θ_run Cert.KernelIdeal.defs _ _).mono (fun _ h => ⟨fun c => (h.1 c).2, h.2⟩)
    (Cert.KernelIdeal.Attn.run_main (F := Ideal) m g)

theorem frame_ri : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

theorem frame_pi_pre : quiescent_KernelIdeal_pre_finite_queries_keys_KernelIdeal (hKernelIdeal := Cert.KernelIdeal.Gen.facts)
    (hPre_finite_queries_keys_KernelIdeal := Cert.Pre_finite_queries_keys_KernelIdeal.Gen.facts) := fun m g _ =>
  frame_pi m g trivial

theorem frame_ri_pre : quiescent_ReferenceIdeal_pre_finite_queries_keys_ReferenceIdeal (hReferenceIdeal := Cert.ReferenceIdeal.Gen.facts)
    (hPre_finite_queries_keys_ReferenceIdeal := Cert.Pre_finite_queries_keys_ReferenceIdeal.Gen.facts) := fun m g _ =>
  frame_ri m g trivial

/-- Every key of the whole array lies in some device's block, so it is a real number. -/
theorem key_real (m : (ℓ : Loc Cert.KernelIdeal.nD Cert.KernelIdeal.τ Cert.KernelIdeal.sig) → Buf (Elt Ideal) ℓ)
    (K : Cert.ReferenceIdeal.Attn.KArr)
    (hk : ∀ c : Dev Cert.KernelIdeal.nD, m ((c.tc : Thread Cert.KernelIdeal.nD Cert.KernelIdeal.τ).loc Cert.KernelIdeal.main_arg1)
      = Layout.block ⟨4, ![4, 4096, 8, 128]⟩ ⟨4, ![4, 16384, 8, 128]⟩ 1 4 c K (by decide))
    (H : Pre_KernelIdeal_finite_queries_keys_KernelIdeal
      (hPre_finite_queries_keys_KernelIdeal := Cert.Pre_finite_queries_keys_KernelIdeal.Gen.facts) m)
    (b : Fin 4) (n : Fin 16384) (h : Fin 8) (d : Fin 128) : ∃ r : ℝ, (K (ValueIdx.ix4 b n h d) : EReal) = r := by
  obtain ⟨⟨c, k⟩, rfl⟩ := Cert.KernelIdeal.Attn.e₀.surjective n
  have e := Cert.Finite.keys _ _ _ (H c) b k h d
  rw [hk c, Cert.KernelIdeal.Attn.block_at] at e
  exact e

/-- The kernel's output on every device is the reference's. -/
theorem values : algebraic_KernelIdeal_ReferenceIdeal_pre_finite_queries_keys_KernelIdeal
    (hKernelIdeal := Cert.KernelIdeal.Gen.facts) (hReferenceIdeal := Cert.ReferenceIdeal.Gen.facts)
    (hPre_finite_queries_keys_KernelIdeal := Cert.Pre_finite_queries_keys_KernelIdeal.Gen.facts) := fun m g m' g' H hm => by
  have hQ : ∀ b q h d, ∃ r : ℝ, ((m' (((0 : Dev Cert.ReferenceIdeal.nD).tc : Thread Cert.ReferenceIdeal.nD Cert.ReferenceIdeal.τ).loc
      Cert.ReferenceIdeal.main_arg0) : Cert.ReferenceIdeal.Attn.QArr) (ValueIdx.ix4 b q h d) : EReal) = (r : EReal) := fun b q h d => by
    have e := Cert.Finite.queries _ _ _ (H (0 : Fin 4)) b q h d
    rw [(hm (0 : Fin 4)).1] at e
    exact e
  have e := Cert.KernelIdeal.Attn.out_eq m _ _ _ (fun c => (hm c).1) (fun c => (hm c).2.1) (fun c => (hm c).2.2) hQ
    (key_real m _ (fun c => (hm c).2.1) H)
  refine ⟨_, (θ_run Cert.KernelIdeal.defs _ _).mono (fun r h c => ⟨(h.1 c).1.trans (e c), (h.1 c).2⟩)
      (Cert.KernelIdeal.Attn.run_main (F := Ideal) m g), ?_⟩
  exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    Cert.Pre_finite_queries_keys_KernelIdeal.Gen.facts, Cert.Pre_finite_queries_keys_ReferenceIdeal.Gen.facts,
    frame_p, frame_pi, frame_pi_pre, frame_ri, frame_ri_pre, trivial, values⟩

end Cert.Proof

end
